-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_pre_gradients [hPre_pre_gradients : Cert.Pre_pre_gradients.Facts] (m : (ℓ : Loc Cert.KernelIdeal.nD Cert.KernelIdeal.τ Cert.KernelIdeal.sig) → Buf (Elt Ideal) ℓ) : Prop :=
  ∀ c : Dev Cert.KernelIdeal.nD,
    (Cert.Pre_pre_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ReferenceIdeal_pre_gradients [hPre_pre_gradients : Cert.Pre_pre_gradients.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_gradients.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre_gradients [hKernelIdeal : Cert.KernelIdeal.Facts] [hPre_pre_gradients : Cert.Pre_pre_gradients.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_gradients m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre_gradients [hReferenceIdeal : Cert.ReferenceIdeal.Facts] [hPre_pre_gradients : Cert.Pre_pre_gradients.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_gradients m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)
  ∧ IdealRules.named_const.Statement Cert.KernelIdeal.κ "ln_2_over_seq" .f32 0x38B17218#32 (((Real.log 2) * 8192⁻¹ : ℝ) : EReal)

def algebraic_KernelIdeal_ReferenceIdeal_on_row_results_pre_pre [hKernelIdeal : Cert.KernelIdeal.Facts] [hReferenceIdeal : Cert.ReferenceIdeal.Facts] [hPre_pre : Cert.Pre_pre.Facts] [hOn_row_results : Cert.On_row_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1, 8192]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v4_0) i = v0 c i)
          ∧ (∀ i : (⟨3, ![2, 8192, 768]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v4_1) i = v1 c i)
          ∧ (∀ i : (⟨3, ![2, 8192, 768]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v4_2) i = v2 c i)
          ∧ (∀ i : (⟨3, ![2, 1, 8192]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v4_3) i = v3 c i)
          ∧ (∀ i : (⟨3, ![2, 1, 8192]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v4_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1, 8192]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v2_0) i = v0 c i)
          ∧ (∀ i : (⟨3, ![2, 8192, 768]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v2_1) i = v1 c i)
          ∧ (∀ i : (⟨3, ![2, 8192, 768]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v2_2) i = v2 c i)
          ∧ (∀ i : (⟨3, ![2, 1, 8192]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v2_3) i = v3 c i)
          ∧ (∀ i : (⟨3, ![2, 1, 8192]⟩ : Shape).Idx, (Cert.On_row_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v2_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ReferenceIdeal_on_gradients_pre_pre_gradients [hKernelIdeal : Cert.KernelIdeal.Facts] [hReferenceIdeal : Cert.ReferenceIdeal.Facts] [hPre_pre_gradients : Cert.Pre_pre_gradients.Facts] [hOn_gradients : Cert.On_gradients.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_gradients m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1, 8192]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v4_0) i = v0 c i)
          ∧ (∀ i : (⟨3, ![2, 8192, 768]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v4_1) i = v1 c i)
          ∧ (∀ i : (⟨3, ![2, 8192, 768]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v4_2) i = v2 c i)
          ∧ (∀ i : (⟨3, ![2, 1, 8192]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v4_3) i = v3 c i)
          ∧ (∀ i : (⟨3, ![2, 1, 8192]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v4_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1, 8192]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v2_0) i = v0 c i)
          ∧ (∀ i : (⟨3, ![2, 8192, 768]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v2_1) i = v1 c i)
          ∧ (∀ i : (⟨3, ![2, 8192, 768]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v2_2) i = v2 c i)
          ∧ (∀ i : (⟨3, ![2, 1, 8192]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v2_3) i = v3 c i)
          ∧ (∀ i : (⟨3, ![2, 1, 8192]⟩ : Shape).Idx, (Cert.On_gradients.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v2_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts) (hPre_pre_gradients : Cert.Pre_pre_gradients.Facts) (hOn_row_results : Cert.On_row_results.Facts) (hOn_gradients : Cert.On_gradients.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_KernelIdeal_pre_pre_gradients (hKernelIdeal := hKernelIdeal) (hPre_pre_gradients := hPre_pre_gradients)
    ∧ quiescent_ReferenceIdeal (hReferenceIdeal := hReferenceIdeal)
    ∧ quiescent_ReferenceIdeal_pre_pre (hReferenceIdeal := hReferenceIdeal) (hPre_pre := hPre_pre)
    ∧ quiescent_ReferenceIdeal_pre_pre_gradients (hReferenceIdeal := hReferenceIdeal) (hPre_pre_gradients := hPre_pre_gradients)
    ∧ preserves_Kernel_KernelIdeal
    ∧ algebraic_KernelIdeal_ReferenceIdeal_on_row_results_pre_pre (hKernelIdeal := hKernelIdeal) (hReferenceIdeal := hReferenceIdeal) (hPre_pre := hPre_pre) (hOn_row_results := hOn_row_results)
    ∧ algebraic_KernelIdeal_ReferenceIdeal_on_gradients_pre_pre_gradients (hKernelIdeal := hKernelIdeal) (hReferenceIdeal := hReferenceIdeal) (hPre_pre_gradients := hPre_pre_gradients) (hOn_gradients := hOn_gradients)
-- ==== On_gradients.lean ====
abbrev S2x8192x768 : Shape := ⟨3, ![2, 8192, 768]⟩
abbrev S2x8192 : Shape := ⟨2, ![2, 8192]⟩
abbrev S_ : Shape := ⟨0, ![]⟩
abbrev S2x1x8192 : Shape := ⟨3, ![2, 1, 8192]⟩

class Facts : Prop where
  bcast_S_S2x1x8192 : S_.BroadcastsInDim S2x1x8192 (![] : Fin 0 → Fin S2x1x8192.rank)
  bcast_S_S2x8192x768 : S_.BroadcastsInDim S2x8192x768 (![] : Fin 0 → Fin S2x8192x768.rank)

variable [Facts]

def fn {F : FTy → Type} [FloatOps F] (main_arg0 : FVec F S2x8192x768 .fp8e4m3) (main_arg1 : FVec F S2x8192 .f32) (main_arg2 : FVec F S2x8192x768 .fp8e4m3) (main_arg3 : FVec F S2x8192 .f32) (main_arg4 : FVec F S_ .f32) (main_arg5 : FVec F S_ .f32) : IVec S2x1x8192 1 × IVec S2x8192x768 1 × IVec S2x8192x768 1 × IVec S2x1x8192 1 × IVec S2x1x8192 1 :=
  let main_c : IVec S_ 1 := constantI S_ 1 0#1
  let main_v0 : IVec S2x1x8192 1 := broadcastInDim S2x1x8192 ![] bcast_S_S2x1x8192 main_c
  let main_c_0 : IVec S_ 1 := constantI S_ 1 1#1
  let main_v1 : IVec S2x8192x768 1 := broadcastInDim S2x8192x768 ![] bcast_S_S2x8192x768 main_c_0
  let main_c_1 : IVec S_ 1 := constantI S_ 1 0#1
  let main_v2 : IVec S2x8192x768 1 := broadcastInDim S2x8192x768 ![] bcast_S_S2x8192x768 main_c_1
  let main_c_2 : IVec S_ 1 := constantI S_ 1 0#1
  let main_v3 : IVec S2x1x8192 1 := broadcastInDim S2x1x8192 ![] bcast_S_S2x1x8192 main_c_2
  let main_c_3 : IVec S_ 1 := constantI S_ 1 0#1
  let main_v4 : IVec S2x1x8192 1 := broadcastInDim S2x1x8192 ![] bcast_S_S2x1x8192 main_c_3
  (main_v0, main_v1, main_v2, main_v3, main_v4)
-- ==== On_row_results.lean ====
abbrev S2x8192x768 : Shape := ⟨3, ![2, 8192, 768]⟩
abbrev S2x8192 : Shape := ⟨2, ![2, 8192]⟩
abbrev S_ : Shape := ⟨0, ![]⟩
abbrev S2x1x8192 : Shape := ⟨3, ![2, 1, 8192]⟩

class Facts : Prop where
  bcast_S_S2x1x8192 : S_.BroadcastsInDim S2x1x8192 (![] : Fin 0 → Fin S2x1x8192.rank)
  bcast_S_S2x8192x768 : S_.BroadcastsInDim S2x8192x768 (![] : Fin 0 → Fin S2x8192x768.rank)

variable [Facts]

def fn {F : FTy → Type} [FloatOps F] (main_arg0 : FVec F S2x8192x768 .fp8e4m3) (main_arg1 : FVec F S2x8192 .f32) (main_arg2 : FVec F S2x8192x768 .fp8e4m3) (main_arg3 : FVec F S2x8192 .f32) (main_arg4 : FVec F S_ .f32) (main_arg5 : FVec F S_ .f32) : IVec S2x1x8192 1 × IVec S2x8192x768 1 × IVec S2x8192x768 1 × IVec S2x1x8192 1 × IVec S2x1x8192 1 :=
  let main_c : IVec S_ 1 := constantI S_ 1 1#1
  let main_v0 : IVec S2x1x8192 1 := broadcastInDim S2x1x8192 ![] bcast_S_S2x1x8192 main_c
  let main_c_0 : IVec S_ 1 := constantI S_ 1 0#1
  let main_v1 : IVec S2x8192x768 1 := broadcastInDim S2x8192x768 ![] bcast_S_S2x8192x768 main_c_0
  let main_c_1 : IVec S_ 1 := constantI S_ 1 0#1
  let main_v2 : IVec S2x8192x768 1 := broadcastInDim S2x8192x768 ![] bcast_S_S2x8192x768 main_c_1
  let main_c_2 : IVec S_ 1 := constantI S_ 1 1#1
  let main_v3 : IVec S2x1x8192 1 := broadcastInDim S2x1x8192 ![] bcast_S_S2x1x8192 main_c_2
  let main_c_3 : IVec S_ 1 := constantI S_ 1 1#1
  let main_v4 : IVec S2x1x8192 1 := broadcastInDim S2x1x8192 ![] bcast_S_S2x1x8192 main_c_3
  (main_v0, main_v1, main_v2, main_v3, main_v4)
-- ==== Pre_pre.lean ====
abbrev S2x8192x768 : Shape := ⟨3, ![2, 8192, 768]⟩
abbrev S2x8192 : Shape := ⟨2, ![2, 8192]⟩
abbrev S_ : Shape := ⟨0, ![]⟩

class Facts : Prop where
  bcast_S_S2x8192 : S_.BroadcastsInDim S2x8192 (![] : Fin 0 → Fin S2x8192.rank)
  reducesTo_S2x8192_S_d0_1 : S2x8192.ReducesTo [0, 1] S_
  h_S_ : 0 < S_.numel

variable [Facts]

def fn {F : FTy → Type} [FloatOps F] (main_arg0 : FVec F S2x8192x768 .fp8e4m3) (main_arg1 : FVec F S2x8192 .f32) (main_arg2 : FVec F S2x8192x768 .fp8e4m3) (main_arg3 : FVec F S2x8192 .f32) (main_arg4 : FVec F S_ .f32) (main_arg5 : FVec F S_ .f32) : IVec S_ 1 :=
  let main_cst : FVec F S_ .f32 := constant S_ .f32 0x00000000#32
  let main_v0 : FVec F S2x8192 .f32 := broadcastInDim S2x8192 ![] bcast_S_S2x8192 main_cst
  let main_v1 : IVec S2x8192 1 := cmpf .ogt main_arg1 main_v0
  let main_c : IVec S_ 1 := constantI S_ 1 1#1
  let main_v2 : IVec S_ 1 := (fun x v => Host.reduce IntOp.andi x v reducesTo_S2x8192_S_d0_1 h_S_) main_v1 main_c
  let main_cst_0 : FVec F S_ .f32 := constant S_ .f32 0x7F800000#32
  let main_v3 : FVec F S2x8192 .f32 := broadcastInDim S2x8192 ![] bcast_S_S2x8192 main_cst_0
  let main_v4 : IVec S2x8192 1 := cmpf .olt main_arg1 main_v3
  let main_c_1 : IVec S_ 1 := constantI S_ 1 1#1
  let main_v5 : IVec S_ 1 := (fun x v => Host.reduce IntOp.andi x v reducesTo_S2x8192_S_d0_1 h_S_) main_v4 main_c_1
  let main_v6 : IVec S_ 1 := andi main_v2 main_v5
  let main_cst_2 : FVec F S_ .f32 := constant S_ .f32 0x00000000#32
  let main_v7 : FVec F S2x8192 .f32 := broadcastInDim S2x8192 ![] bcast_S_S2x8192 main_cst_2
  let main_v8 : IVec S2x8192 1 := cmpf .ogt main_arg3 main_v7
  let main_c_3 : IVec S_ 1 := constantI S_ 1 1#1
  let main_v9 : IVec S_ 1 := (fun x v => Host.reduce IntOp.andi x v reducesTo_S2x8192_S_d0_1 h_S_) main_v8 main_c_3
  let main_v10 : IVec S_ 1 := andi main_v6 main_v9
  let main_cst_4 : FVec F S_ .f32 := constant S_ .f32 0x7F800000#32
  let main_v11 : FVec F S2x8192 .f32 := broadcastInDim S2x8192 ![] bcast_S_S2x8192 main_cst_4
  let main_v12 : IVec S2x8192 1 := cmpf .olt main_arg3 main_v11
  let main_c_5 : IVec S_ 1 := constantI S_ 1 1#1
  let main_v13 : IVec S_ 1 := (fun x v => Host.reduce IntOp.andi x v reducesTo_S2x8192_S_d0_1 h_S_) main_v12 main_c_5
  let main_v14 : IVec S_ 1 := andi main_v10 main_v13
  main_v14
-- ==== Pre_pre_gradients.lean ====
abbrev S2x8192x768 : Shape := ⟨3, ![2, 8192, 768]⟩
abbrev S2x8192 : Shape := ⟨2, ![2, 8192]⟩
abbrev S_ : Shape := ⟨0, ![]⟩

class Facts : Prop where
  bcast_S_S2x8192 : S_.BroadcastsInDim S2x8192 (![] : Fin 0 → Fin S2x8192.rank)
  reducesTo_S2x8192_S_d0_1 : S2x8192.ReducesTo [0, 1] S_
  h_S_ : 0 < S_.numel

variable [Facts]

def fn_part1 {F : FTy → Type} [FloatOps F] (main_arg4 : FVec F S_ .f32) (main_v14 : IVec S_ 1) (main_cst_6 : FVec F S_ .f32) : IVec S_ 1 :=
  let main_v15 : IVec S_ 1 := cmpf .olt main_arg4 main_cst_6
  let main_v16 : IVec S_ 1 := andi main_v14 main_v15
  main_v16

def fn {F : FTy → Type} [FloatOps F] (main_arg0 : FVec F S2x8192x768 .fp8e4m3) (main_arg1 : FVec F S2x8192 .f32) (main_arg2 : FVec F S2x8192x768 .fp8e4m3) (main_arg3 : FVec F S2x8192 .f32) (main_arg4 : FVec F S_ .f32) (main_arg5 : FVec F S_ .f32) : IVec S_ 1 :=
  let main_cst : FVec F S_ .f32 := constant S_ .f32 0x00000000#32
  let main_v0 : FVec F S2x8192 .f32 := broadcastInDim S2x8192 ![] bcast_S_S2x8192 main_cst
  let main_v1 : IVec S2x8192 1 := cmpf .ogt main_arg1 main_v0
  let main_c : IVec S_ 1 := constantI S_ 1 1#1
  let main_v2 : IVec S_ 1 := (fun x v => Host.reduce IntOp.andi x v reducesTo_S2x8192_S_d0_1 h_S_) main_v1 main_c
  let main_cst_0 : FVec F S_ .f32 := constant S_ .f32 0x7F800000#32
  let main_v3 : FVec F S2x8192 .f32 := broadcastInDim S2x8192 ![] bcast_S_S2x8192 main_cst_0
  let main_v4 : IVec S2x8192 1 := cmpf .olt main_arg1 main_v3
  let main_c_1 : IVec S_ 1 := constantI S_ 1 1#1
  let main_v5 : IVec S_ 1 := (fun x v => Host.reduce IntOp.andi x v reducesTo_S2x8192_S_d0_1 h_S_) main_v4 main_c_1
  let main_v6 : IVec S_ 1 := andi main_v2 main_v5
  let main_cst_2 : FVec F S_ .f32 := constant S_ .f32 0x00000000#32
  let main_v7 : FVec F S2x8192 .f32 := broadcastInDim S2x8192 ![] bcast_S_S2x8192 main_cst_2
  let main_v8 : IVec S2x8192 1 := cmpf .ogt main_arg3 main_v7
  let main_c_3 : IVec S_ 1 := constantI S_ 1 1#1
  let main_v9 : IVec S_ 1 := (fun x v => Host.reduce IntOp.andi x v reducesTo_S2x8192_S_d0_1 h_S_) main_v8 main_c_3
  let main_v10 : IVec S_ 1 := andi main_v6 main_v9
  let main_cst_4 : FVec F S_ .f32 := constant S_ .f32 0x7F800000#32
  let main_v11 : FVec F S2x8192 .f32 := broadcastInDim S2x8192 ![] bcast_S_S2x8192 main_cst_4
  let main_v12 : IVec S2x8192 1 := cmpf .olt main_arg3 main_v11
  let main_c_5 : IVec S_ 1 := constantI S_ 1 1#1
  let main_v13 : IVec S_ 1 := (fun x v => Host.reduce IntOp.andi x v reducesTo_S2x8192_S_d0_1 h_S_) main_v12 main_c_5
  let main_v14 : IVec S_ 1 := andi main_v10 main_v13
  let main_cst_6 : FVec F S_ .f32 := constant S_ .f32 0x7F800000#32
  fn_part1 (F := F) main_arg4 main_v14 main_cst_6
-- ==== Kernel.lean ====
abbrev S2x8192x768 : Shape := ⟨3, ![2, 8192, 768]⟩
abbrev S2x8192 : Shape := ⟨2, ![2, 8192]⟩
abbrev S_ : Shape := ⟨0, ![]⟩
abbrev S1 : Shape := ⟨1, ![1]⟩
abbrev S2x1x8192 : Shape := ⟨3, ![2, 1, 8192]⟩
abbrev S1x1x512 : Shape := ⟨3, ![1, 1, 512]⟩
abbrev S1x1x1024 : Shape := ⟨3, ![1, 1, 1024]⟩
abbrev S1x512x768 : Shape := ⟨3, ![1, 512, 768]⟩
abbrev S1x1024x768 : Shape := ⟨3, ![1, 1024, 768]⟩
abbrev S2x1024x256 : Shape := ⟨3, ![2, 1024, 256]⟩
abbrev S1024x512 : Shape := ⟨2, ![1024, 512]⟩
abbrev S768x512 : Shape := ⟨2, ![768, 512]⟩
abbrev S8192x768 : Shape := ⟨2, ![8192, 768]⟩
abbrev S768x8192 : Shape := ⟨2, ![768, 8192]⟩
abbrev S8192x128 : Shape := ⟨2, ![8192, 128]⟩
abbrev S8x512 : Shape := ⟨2, ![8, 512]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S256x128 : Shape := ⟨2, ![256, 128]⟩
abbrev S768x256 : Shape := ⟨2, ![768, 256]⟩
abbrev S128x256 : Shape := ⟨2, ![128, 256]⟩
abbrev S8x256 : Shape := ⟨2, ![8, 256]⟩
abbrev S1x256 : Shape := ⟨2, ![1, 256]⟩
abbrev S32x256 : Shape := ⟨2, ![32, 256]⟩
abbrev S1024x768 : Shape := ⟨2, ![1024, 768]⟩
abbrev S1024x256 : Shape := ⟨2, ![1024, 256]⟩
abbrev S1x1024x256 : Shape := ⟨3, ![1, 1024, 256]⟩
abbrev S1x32x256 : Shape := ⟨3, ![1, 32, 256]⟩
abbrev S32x128 : Shape := ⟨2, ![32, 128]⟩
abbrev S768x1024 : Shape := ⟨2, ![768, 1024]⟩
abbrev S512x768 : Shape := ⟨2, ![512, 768]⟩
abbrev S512 : Shape := ⟨1, ![512]⟩
abbrev S1x512 : Shape := ⟨2, ![1, 512]⟩
abbrev S1x1x256 : Shape := ⟨3, ![1, 1, 256]⟩

abbrev nBuf : Space → Nat
  | .hbm => 15
  | .vmem => 28
  | .smem => 2
  | _ => 0

abbrev bufTy : (tb : Table) → Fin (tcTables nBuf tb) → BufTy
  | .hbm, ⟨0, _⟩ => ⟨S2x8192x768, .fp8e4m3⟩
  | .hbm, ⟨1, _⟩ => ⟨S2x8192, .f32⟩
  | .hbm, ⟨2, _⟩ => ⟨S2x8192x768, .fp8e4m3⟩
  | .hbm, ⟨3, _⟩ => ⟨S2x8192, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S2x1x8192, .f32⟩
  | .hbm, ⟨9, _⟩ => ⟨S2x1x8192, .f32⟩
  | .hbm, ⟨10, _⟩ => ⟨S2x1x8192, .f32⟩
  | .hbm, ⟨11, _⟩ => ⟨S2x8192x768, .bf16⟩
  | .hbm, ⟨12, _⟩ => ⟨S2x8192x768, .bf16⟩
  | .hbm, ⟨13, _⟩ => ⟨S2x1x8192, .f32⟩
  | .hbm, ⟨14, _⟩ => ⟨S2x1x8192, .f32⟩
  | .local _ .vmem, ⟨0, _⟩ => ⟨S1x1x512, .f32⟩
  | .local _ .vmem, ⟨1, _⟩ => ⟨S1x1x512, .f32⟩
  | .local _ .vmem, ⟨2, _⟩ => ⟨S1x1x1024, .f32⟩
  | .local _ .vmem, ⟨3, _⟩ => ⟨S1x1x1024, .f32⟩
  | .local _ .vmem, ⟨4, _⟩ => ⟨S1x512x768, .fp8e4m3⟩
  | .local _ .vmem, ⟨5, _⟩ => ⟨S1x512x768, .fp8e4m3⟩
  | .local _ .vmem, ⟨6, _⟩ => ⟨S1x1024x768, .fp8e4m3⟩
  | .local _ .vmem, ⟨7, _⟩ => ⟨S1x1024x768, .fp8e4m3⟩
  | .local _ .vmem, ⟨8, _⟩ => ⟨S1x1x512, .f32⟩
  | .local _ .vmem, ⟨9, _⟩ => ⟨S1x1x512, .f32⟩
  | .local _ .vmem, ⟨10, _⟩ => ⟨S1x512x768, .bf16⟩
  | .local _ .vmem, ⟨11, _⟩ => ⟨S1x512x768, .bf16⟩
  | .local _ .vmem, ⟨12, _⟩ => ⟨S1x1024x768, .bf16⟩
  | .local _ .vmem, ⟨13, _⟩ => ⟨S1x1024x768, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S2x1024x256, .f32⟩
  | .local _ .vmem, ⟨19, _⟩ => ⟨S1024x512, .bf16⟩
  | .local _ .vmem, ⟨20, _⟩ => ⟨S768x512, .f32⟩
  | .local _ .vmem, ⟨21, _⟩ => ⟨S8192x768, .f32⟩
  | .local _ .vmem, ⟨22, _⟩ => ⟨S768x8192, .bf16⟩
  | .local _ .vmem, ⟨23, _⟩ => ⟨S8192x128, .f32⟩
  | .local _ .vmem, ⟨24, _⟩ => ⟨S8x512, .f32⟩
  | .local _ .vmem, ⟨25, _⟩ => ⟨S8x512, .f32⟩
  | .local _ .vmem, ⟨26, _⟩ => ⟨S8x512, .f32⟩
  | .local _ .vmem, ⟨27, _⟩ => ⟨S8x512, .f32⟩
  | .local _ .smem, ⟨0, _⟩ => ⟨S1, .f32⟩
  | .local _ .smem, ⟨1, _⟩ => ⟨S1, .f32⟩
  | _, _ => ⟨S2x8192x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_1027 : BitVec 32 := 0#32
  let c4_i32 : BitVec 32 := 4#32
  let v5196 : BitVec 32 := Scalar.addi c0_i32_1027 c4_i32
  let c1_i32 : BitVec 32 := 1#32
  ⟨c0_i32_1027, v5196, c1_i32⟩
def k0_mult2 (k0_t1 : Fin k0_t1_loop.trips) : BitVec 32 :=
  let c0_i32_1030 : BitVec 32 := 0#32
  let c0_i32_1027 : BitVec 32 := 0#32
  let c1_i32 : BitVec 32 := 1#32
  let arg24 : BitVec 32 := Scf.iv c0_i32_1027 c1_i32 k0_t1
  let c1_i32_1029 : BitVec 32 := 1#32
  let v5197 : BitVec 32 := Scalar.muli arg24 c1_i32_1029
  let v5198 : BitVec 32 := Scalar.addi c0_i32_1030 v5197
  let c256_i32_1031 : BitVec 32 := 256#32
  let v5199 : BitVec 32 := Scalar.muli v5198 c256_i32_1031
  v5199
def k0_mult3 (i : grid0.Coords) (k0_t1 : Fin k0_t1_loop.trips) : BitVec 32 :=
  let arg2 : BitVec 32 := BitVec.ofNat 32 (i 2).val
  let c1024_i32_1032 : BitVec 32 := 1024#32
  let v5201 : BitVec 32 := Scalar.muli arg2 c1024_i32_1032
  let c0_i32_1030 : BitVec 32 := 0#32
  let c0_i32_1027 : BitVec 32 := 0#32
  let c1_i32 : BitVec 32 := 1#32
  let arg24 : BitVec 32 := Scf.iv c0_i32_1027 c1_i32 k0_t1
  let c1_i32_1029 : BitVec 32 := 1#32
  let v5197 : BitVec 32 := Scalar.muli arg24 c1_i32_1029
  let v5198 : BitVec 32 := Scalar.addi c0_i32_1030 v5197
  let c256_i32_1033 : BitVec 32 := 256#32
  let v5202 : BitVec 32 := Scalar.muli v5198 c256_i32_1033
  let v5203 : BitVec 32 := Scalar.addi v5201 v5202
  v5203
def k0_off1 (k0_t1 : Fin k0_t1_loop.trips) : Fin 3 → Nat :=
  let c0_1034 : Index := 0#32
  let c0_i32_1030 : BitVec 32 := 0#32
  let c0_i32_1027 : BitVec 32 := 0#32
  let c1_i32 : BitVec 32 := 1#32
  let arg24 : BitVec 32 := Scf.iv c0_i32_1027 c1_i32 k0_t1
  let c1_i32_1029 : BitVec 32 := 1#32
  let v5197 : BitVec 32 := Scalar.muli arg24 c1_i32_1029
  let v5198 : BitVec 32 := Scalar.addi c0_i32_1030 v5197
  let c256_i32_1031 : BitVec 32 := 256#32
  let v5199 : BitVec 32 := Scalar.muli v5198 c256_i32_1031
  let v5200 : BitVec 32 := v5199
  let v5205 : Index := Scalar.indexCast v5200
  let c0_1035 : Index := 0#32
  ![0, v5205.toNat, 0]
def k0_off2 (i : grid0.Coords) (k0_t1 : Fin k0_t1_loop.trips) : Fin 2 → Nat :=
  let arg2 : BitVec 32 := BitVec.ofNat 32 (i 2).val
  let c1024_i32_1032 : BitVec 32 := 1024#32
  let v5201 : BitVec 32 := Scalar.muli arg2 c1024_i32_1032
  let c0_i32_1030 : BitVec 32 := 0#32
  let c0_i32_1027 : BitVec 32 := 0#32
  let c1_i32 : BitVec 32 := 1#32
  let arg24 : BitVec 32 := Scf.iv c0_i32_1027 c1_i32 k0_t1
  let c1_i32_1029 : BitVec 32 := 1#32
  let v5197 : BitVec 32 := Scalar.muli arg24 c1_i32_1029
  let v5198 : BitVec 32 := Scalar.addi c0_i32_1030 v5197
  let c256_i32_1033 : BitVec 32 := 256#32
  let v5202 : BitVec 32 := Scalar.muli v5198 c256_i32_1033
  let v5203 : BitVec 32 := Scalar.addi v5201 v5202
  let v5204 : BitVec 32 := v5203
  let v5223 : Index := Scalar.indexCast v5204
  let c0_1041 : Index := 0#32
  ![v5223.toNat, 0]
def k0_off3 (i : grid0.Coords) (k0_t1 : Fin k0_t1_loop.trips) : Fin 2 → Nat :=
  let c0_1042 : Index := 0#32
  let arg2 : BitVec 32 := BitVec.ofNat 32 (i 2).val
  let c1024_i32_1032 : BitVec 32 := 1024#32
  let v5201 : BitVec 32 := Scalar.muli arg2 c1024_i32_1032
  let c0_i32_1030 : BitVec 32 := 0#32
  let c0_i32_1027 : BitVec 32 := 0#32
  let c1_i32 : BitVec 32 := 1#32
  let arg24 : BitVec 32 := Scf.iv c0_i32_1027 c1_i32 k0_t1
  let c1_i32_1029 : BitVec 32 := 1#32
  let v5197 : BitVec 32 := Scalar.muli arg24 c1_i32_1029
  let v5198 : BitVec 32 := Scalar.addi c0_i32_1030 v5197
  let c256_i32_1033 : BitVec 32 := 256#32
  let v5202 : BitVec 32 := Scalar.muli v5198 c256_i32_1033
  let v5203 : BitVec 32 := Scalar.addi v5201 v5202
  let v5204 : BitVec 32 := v5203
  let v5229 : Index := Scalar.indexCast v5204
  ![0, v5229.toNat]
def k0_off4 (i : grid0.Coords) (k0_t1 : Fin k0_t1_loop.trips) : Fin 2 → Nat :=
  let arg2 : BitVec 32 := BitVec.ofNat 32 (i 2).val
  let c1024_i32_1032 : BitVec 32 := 1024#32
  let v5201 : BitVec 32 := Scalar.muli arg2 c1024_i32_1032
  let c0_i32_1030 : BitVec 32 := 0#32
  let c0_i32_1027 : BitVec 32 := 0#32
  let c1_i32 : BitVec 32 := 1#32
  let arg24 : BitVec 32 := Scf.iv c0_i32_1027 c1_i32 k0_t1
  let c1_i32_1029 : BitVec 32 := 1#32
  let v5197 : BitVec 32 := Scalar.muli arg24 c1_i32_1029
  let v5198 : BitVec 32 := Scalar.addi c0_i32_1030 v5197
  let c256_i32_1033 : BitVec 32 := 256#32
  let v5202 : BitVec 32 := Scalar.muli v5198 c256_i32_1033
  let v5203 : BitVec 32 := Scalar.addi v5201 v5202
  let v5204 : BitVec 32 := v5203
  let v5234 : Index := Scalar.indexCast v5204
  let c0_1044 : Index := 0#32
  ![v5234.toNat, 0]
def k0_mult4 (i : grid0.Coords) : BitVec 32 :=
  let arg2 : BitVec 32 := BitVec.ofNat 32 (i 2).val
  let c1024_i32_37 : BitVec 32 := 1024#32
  let v46 : BitVec 32 := Scalar.muli arg2 c1024_i32_37
  let c0_i32_38 : BitVec 32 := 0#32
  let v47 : BitVec 32 := Scalar.addi v46 c0_i32_38
  v47
def k0_off5 (i : grid0.Coords) (c0_i32_38 : BitVec 32) : Fin 2 → Nat :=
  let arg2 : BitVec 32 := BitVec.ofNat 32 (i 2).val
  let c1024_i32_37 : BitVec 32 := 1024#32
  let v46 : BitVec 32 := Scalar.muli arg2 c1024_i32_37
  let v47 : BitVec 32 := Scalar.addi v46 c0_i32_38
  let v48 : BitVec 32 := v47
  let v49 : Index := Scalar.indexCast v48
  let c0_39 : Index := 0#32
  ![v49.toNat, 0]
def k0_mult5 (i : grid0.Coords) : BitVec 32 :=
  let arg2 : BitVec 32 := BitVec.ofNat 32 (i 2).val
  let c1024_i32_53 : BitVec 32 := 1024#32
  let v129 : BitVec 32 := Scalar.muli arg2 c1024_i32_53
  let c32_i32 : BitVec 32 := 32#32
  let v130 : BitVec 32 := Scalar.addi v129 c32_i32
  v130
def k0_mult6 (i : grid0.Coords) : BitVec 32 :=
  let arg2 : BitVec 32 := BitVec.ofNat 32 (i 2).val
  let c1024_i32_67 : BitVec 32 := 1024#32
  let v212 : BitVec 32 := Scalar.muli arg2 c1024_i32_67
  let c64_i32 : BitVec 32 := 64#32
  let v213 : BitVec 32 := Scalar.addi v212 c64_i32
  v213
def k0_mult7 (i : grid0.Coords) : BitVec 32 :=
  let arg2 : BitVec 32 := BitVec.ofNat 32 (i 2).val
  let c1024_i32_81 : BitVec 32 := 1024#32
  let v295 : BitVec 32 := Scalar.muli arg2 c1024_i32_81
  let c96_i32 : BitVec 32 := 96#32
  let v296 : BitVec 32 := Scalar.addi v295 c96_i32
  v296
def k0_mult8 (i : grid0.Coords) : BitVec 32 :=
  let arg2 : BitVec 32 := BitVec.ofNat 32 (i 2).val
  let c1024_i32_95 : BitVec 32 := 1024#32
  let v378 : BitVec 32 := Scalar.muli arg2 c1024_i32_95
  let c128_i32 : BitVec 32 := 128#32
  let v379 : BitVec 32 := Scalar.addi v378 c128_i32
  v379
def k0_mult9 (i : grid0.Coords) : BitVec 32 :=
  let arg2 : BitVec 32 := BitVec.ofNat 32 (i 2).val
  let c1024_i32_109 : BitVec 32 := 1024#32
  let v461 : BitVec 32 := Scalar.muli arg2 c1024_i32_109
  let c160_i32 : BitVec 32 := 160#32
  let v462 : BitVec 32 := Scalar.addi v461 c160_i32
  v462
def k0_mult10 (i : grid0.Coords) : BitVec 32 :=
  let arg2 : BitVec 32 := BitVec.ofNat 32 (i 2).val
  let c1024_i32_123 : BitVec 32 := 1024#32
  let v544 : BitVec 32 := Scalar.muli arg2 c1024_i32_123
  let c192_i32 : BitVec 32 := 192#32
  let v545 : BitVec 32 := Scalar.addi v544 c192_i32
  v545
def k0_mult11 (i : grid0.Coords) : BitVec 32 :=
  let arg2 : BitVec 32 := BitVec.ofNat 32 (i 2).val
  let c1024_i32_137 : BitVec 32 := 1024#32
  let v627 : BitVec 32 := Scalar.muli arg2 c1024_i32_137
  let c224_i32 : BitVec 32 := 224#32
  let v628 : BitVec 32 := Scalar.addi v627 c224_i32
  v628
def k0_mult12 (i : grid0.Coords) : BitVec 32 :=
  let arg2 : BitVec 32 := BitVec.ofNat 32 (i 2).val
  let c1024_i32_152 : BitVec 32 := 1024#32
  let v710 : BitVec 32 := Scalar.muli arg2 c1024_i32_152
  let c256_i32 : BitVec 32 := 256#32
  let v711 : BitVec 32 := Scalar.addi v710 c256_i32
  v711
def k0_mult13 (i : grid0.Coords) : BitVec 32 :=
  let arg2 : BitVec 32 := BitVec.ofNat 32 (i 2).val
  let c1024_i32_164 : BitVec 32 := 1024#32
  let v784 : BitVec 32 := Scalar.muli arg2 c1024_i32_164
  let c288_i32 : BitVec 32 := 288#32
  let v785 : BitVec 32 := Scalar.addi v784 c288_i32
  v785
def k0_mult14 (i : grid0.Coords) : BitVec 32 :=
  let arg2 : BitVec 32 := BitVec.ofNat 32 (i 2).val
  let c1024_i32_176 : BitVec 32 := 1024#32
  let v858 : BitVec 32 := Scalar.muli arg2 c1024_i32_176
  let c320_i32 : BitVec 32 := 320#32
  let v859 : BitVec 32 := Scalar.addi v858 c320_i32
  v859
def k0_mult15 (i : grid0.Coords) : BitVec 32 :=
  let arg2 : BitVec 32 := BitVec.ofNat 32 (i 2).val
  let c1024_i32_188 : BitVec 32 := 1024#32
  let v932 : BitVec 32 := Scalar.muli arg2 c1024_i32_188
  let c352_i32 : BitVec 32 := 352#32
  let v933 : BitVec 32 := Scalar.addi v932 c352_i32
  v933
def k0_mult16 (i : grid0.Coords) : BitVec 32 :=
  let arg2 : BitVec 32 := BitVec.ofNat 32 (i 2).val
  let c1024_i32_200 : BitVec 32 := 1024#32
  let v1006 : BitVec 32 := Scalar.muli arg2 c1024_i32_200
  let c384_i32 : BitVec 32 := 384#32
  let v1007 : BitVec 32 := Scalar.addi v1006 c384_i32
  v1007
def k0_mult17 (i : grid0.Coords) : BitVec 32 :=
  let arg2 : BitVec 32 := BitVec.ofNat 32 (i 2).val
  let c1024_i32_212 : BitVec 32 := 1024#32
  let v1080 : BitVec 32 := Scalar.muli arg2 c1024_i32_212
  let c416_i32 : BitVec 32 := 416#32
  let v1081 : BitVec 32 := Scalar.addi v1080 c416_i32
  v1081
def k0_mult18 (i : grid0.Coords) : BitVec 32 :=
  let arg2 : BitVec 32 := BitVec.ofNat 32 (i 2).val
  let c1024_i32_224 : BitVec 32 := 1024#32
  let v1154 : BitVec 32 := Scalar.muli arg2 c1024_i32_224
  let c448_i32 : BitVec 32 := 448#32
  let v1155 : BitVec 32 := Scalar.addi v1154 c448_i32
  v1155
def k0_mult19 (i : grid0.Coords) : BitVec 32 :=
  let arg2 : BitVec 32 := BitVec.ofNat 32 (i 2).val
  let c1024_i32_236 : BitVec 32 := 1024#32
  let v1228 : BitVec 32 := Scalar.muli arg2 c1024_i32_236
  let c480_i32 : BitVec 32 := 480#32
  let v1229 : BitVec 32 := Scalar.addi v1228 c480_i32
  v1229
def k0_mult20 (i : grid0.Coords) : BitVec 32 :=
  let arg2 : BitVec 32 := BitVec.ofNat 32 (i 2).val
  let c1024_i32_256 : BitVec 32 := 1024#32
  let v1320 : BitVec 32 := Scalar.muli arg2 c1024_i32_256
  let c512_i32_257 : BitVec 32 := 512#32
  let v1321 : BitVec 32 := Scalar.addi v1320 c512_i32_257
  v1321
def k0_mult21 (i : grid0.Coords) : BitVec 32 :=
  let arg2 : BitVec 32 := BitVec.ofNat 32 (i 2).val
  let c1024_i32_271 : BitVec 32 := 1024#32
  let v1403 : BitVec 32 := Scalar.muli arg2 c1024_i32_271
  let c544_i32 : BitVec 32 := 544#32
  let v1404 : BitVec 32 := Scalar.addi v1403 c544_i32
  v1404
def k0_mult22 (i : grid0.Coords) : BitVec 32 :=
  let arg2 : BitVec 32 := BitVec.ofNat 32 (i 2).val
  let c1024_i32_285 : BitVec 32 := 1024#32
  let v1486 : BitVec 32 := Scalar.muli arg2 c1024_i32_285
  let c576_i32 : BitVec 32 := 576#32
  let v1487 : BitVec 32 := Scalar.addi v1486 c576_i32
  v1487
def k0_mult23 (i : grid0.Coords) : BitVec 32 :=
  let arg2 : BitVec 32 := BitVec.ofNat 32 (i 2).val
  let c1024_i32_299 : BitVec 32 := 1024#32
  let v1569 : BitVec 32 := Scalar.muli arg2 c1024_i32_299
  let c608_i32 : BitVec 32 := 608#32
  let v1570 : BitVec 32 := Scalar.addi v1569 c608_i32
  v1570
def k0_mult24 (i : grid0.Coords) : BitVec 32 :=
  let arg2 : BitVec 32 := BitVec.ofNat 32 (i 2).val
  let c1024_i32_313 : BitVec 32 := 1024#32
  let v1652 : BitVec 32 := Scalar.muli arg2 c1024_i32_313
  let c640_i32 : BitVec 32 := 640#32
  let v1653 : BitVec 32 := Scalar.addi v1652 c640_i32
  v1653
def k0_mult25 (i : grid0.Coords) : BitVec 32 :=
  let arg2 : BitVec 32 := BitVec.ofNat 32 (i 2).val
  let c1024_i32_327 : BitVec 32 := 1024#32
  let v1735 : BitVec 32 := Scalar.muli arg2 c1024_i32_327
  let c672_i32 : BitVec 32 := 672#32
  let v1736 : BitVec 32 := Scalar.addi v1735 c672_i32
  v1736
def k0_mult26 (i : grid0.Coords) : BitVec 32 :=
  let arg2 : BitVec 32 := BitVec.ofNat 32 (i 2).val
  let c1024_i32_341 : BitVec 32 := 1024#32
  let v1818 : BitVec 32 := Scalar.muli arg2 c1024_i32_341
  let c704_i32 : BitVec 32 := 704#32
  let v1819 : BitVec 32 := Scalar.addi v1818 c704_i32
  v1819
def k0_mult27 (i : grid0.Coords) : BitVec 32 :=
  let arg2 : BitVec 32 := BitVec.ofNat 32 (i 2).val
  let c1024_i32_355 : BitVec 32 := 1024#32
  let v1901 : BitVec 32 := Scalar.muli arg2 c1024_i32_355
  let c736_i32 : BitVec 32 := 736#32
  let v1902 : BitVec 32 := Scalar.addi v1901 c736_i32
  v1902
def k0_mult28 (i : grid0.Coords) : BitVec 32 :=
  let arg2 : BitVec 32 := BitVec.ofNat 32 (i 2).val
  let c1024_i32_369 : BitVec 32 := 1024#32
  let v1984 : BitVec 32 := Scalar.muli arg2 c1024_i32_369
  let c768_i32 : BitVec 32 := 768#32
  let v1985 : BitVec 32 := Scalar.addi v1984 c768_i32
  v1985
def k0_mult29 (i : grid0.Coords) : BitVec 32 :=
  let arg2 : BitVec 32 := BitVec.ofNat 32 (i 2).val
  let c1024_i32_381 : BitVec 32 := 1024#32
  let v2058 : BitVec 32 := Scalar.muli arg2 c1024_i32_381
  let c800_i32 : BitVec 32 := 800#32
  let v2059 : BitVec 32 := Scalar.addi v2058 c800_i32
  v2059
def k0_mult30 (i : grid0.Coords) : BitVec 32 :=
  let arg2 : BitVec 32 := BitVec.ofNat 32 (i 2).val
  let c1024_i32_393 : BitVec 32 := 1024#32
  let v2132 : BitVec 32 := Scalar.muli arg2 c1024_i32_393
  let c832_i32 : BitVec 32 := 832#32
  let v2133 : BitVec 32 := Scalar.addi v2132 c832_i32
  v2133
def k0_mult31 (i : grid0.Coords) : BitVec 32 :=
  let arg2 : BitVec 32 := BitVec.ofNat 32 (i 2).val
  let c1024_i32_405 : BitVec 32 := 1024#32
  let v2206 : BitVec 32 := Scalar.muli arg2 c1024_i32_405
  let c864_i32 : BitVec 32 := 864#32
  let v2207 : BitVec 32 := Scalar.addi v2206 c864_i32
  v2207
def k0_mult32 (i : grid0.Coords) : BitVec 32 :=
  let arg2 : BitVec 32 := BitVec.ofNat 32 (i 2).val
  let c1024_i32_417 : BitVec 32 := 1024#32
  let v2280 : BitVec 32 := Scalar.muli arg2 c1024_i32_417
  let c896_i32 : BitVec 32 := 896#32
  let v2281 : BitVec 32 := Scalar.addi v2280 c896_i32
  v2281
def k0_mult33 (i : grid0.Coords) : BitVec 32 :=
  let arg2 : BitVec 32 := BitVec.ofNat 32 (i 2).val
  let c1024_i32_429 : BitVec 32 := 1024#32
  let v2354 : BitVec 32 := Scalar.muli arg2 c1024_i32_429
  let c928_i32 : BitVec 32 := 928#32
  let v2355 : BitVec 32 := Scalar.addi v2354 c928_i32
  v2355
def k0_mult34 (i : grid0.Coords) : BitVec 32 :=
  let arg2 : BitVec 32 := BitVec.ofNat 32 (i 2).val
  let c1024_i32_441 : BitVec 32 := 1024#32
  let v2428 : BitVec 32 := Scalar.muli arg2 c1024_i32_441
  let c960_i32 : BitVec 32 := 960#32
  let v2429 : BitVec 32 := Scalar.addi v2428 c960_i32
  v2429
def k0_mult35 (i : grid0.Coords) : BitVec 32 :=
  let arg2 : BitVec 32 := BitVec.ofNat 32 (i 2).val
  let c1024_i32_453 : BitVec 32 := 1024#32
  let v2502 : BitVec 32 := Scalar.muli arg2 c1024_i32_453
  let c992_i32 : BitVec 32 := 992#32
  let v2503 : BitVec 32 := Scalar.addi v2502 c992_i32
  v2503
def k0_off6 (i : grid0.Coords) : Fin 2 → Nat :=
  let c0_477 : Index := 0#32
  let arg2 : BitVec 32 := BitVec.ofNat 32 (i 2).val
  let c1024_i32 : BitVec 32 := 1024#32
  let v0 : BitVec 32 := Scalar.muli arg2 c1024_i32
  let v1 : BitVec 32 := v0
  let v2600 : Index := Scalar.indexCast v1
  ![0, v2600.toNat]
def k0_mult36 (i : grid0.Coords) : BitVec 32 :=
  let arg2 : BitVec 32 := BitVec.ofNat 32 (i 2).val
  let c1024_i32_496 : BitVec 32 := 1024#32
  let v2617 : BitVec 32 := Scalar.muli arg2 c1024_i32_496
  let c0_i32_497 : BitVec 32 := 0#32
  let v2618 : BitVec 32 := Scalar.addi v2617 c0_i32_497
  v2618
def k0_mult37 (i : grid0.Coords) : BitVec 32 :=
  let arg2 : BitVec 32 := BitVec.ofNat 32 (i 2).val
  let c1024_i32_510 : BitVec 32 := 1024#32
  let v2691 : BitVec 32 := Scalar.muli arg2 c1024_i32_510
  let c32_i32_511 : BitVec 32 := 32#32
  let v2692 : BitVec 32 := Scalar.addi v2691 c32_i32_511
  v2692
def k0_mult38 (i : grid0.Coords) : BitVec 32 :=
  let arg2 : BitVec 32 := BitVec.ofNat 32 (i 2).val
  let c1024_i32_524 : BitVec 32 := 1024#32
  let v2765 : BitVec 32 := Scalar.muli arg2 c1024_i32_524
  let c64_i32_525 : BitVec 32 := 64#32
  let v2766 : BitVec 32 := Scalar.addi v2765 c64_i32_525
  v2766
def k0_mult39 (i : grid0.Coords) : BitVec 32 :=
  let arg2 : BitVec 32 := BitVec.ofNat 32 (i 2).val
  let c1024_i32_538 : BitVec 32 := 1024#32
  let v2839 : BitVec 32 := Scalar.muli arg2 c1024_i32_538
  let c96_i32_539 : BitVec 32 := 96#32
  let v2840 : BitVec 32 := Scalar.addi v2839 c96_i32_539
  v2840
def k0_mult40 (i : grid0.Coords) : BitVec 32 :=
  let arg2 : BitVec 32 := BitVec.ofNat 32 (i 2).val
  let c1024_i32_552 : BitVec 32 := 1024#32
  let v2913 : BitVec 32 := Scalar.muli arg2 c1024_i32_552
  let c128_i32_553 : BitVec 32 := 128#32
  let v2914 : BitVec 32 := Scalar.addi v2913 c128_i32_553
  v2914
def k0_mult41 (i : grid0.Coords) : BitVec 32 :=
  let arg2 : BitVec 32 := BitVec.ofNat 32 (i 2).val
  let c1024_i32_566 : BitVec 32 := 1024#32
  let v2987 : BitVec 32 := Scalar.muli arg2 c1024_i32_566
  let c160_i32_567 : BitVec 32 := 160#32
  let v2988 : BitVec 32 := Scalar.addi v2987 c160_i32_567
  v2988
def k0_mult42 (i : grid0.Coords) : BitVec 32 :=
  let arg2 : BitVec 32 := BitVec.ofNat 32 (i 2).val
  let c1024_i32_580 : BitVec 32 := 1024#32
  let v3061 : BitVec 32 := Scalar.muli arg2 c1024_i32_580
  let c192_i32_581 : BitVec 32 := 192#32
  let v3062 : BitVec 32 := Scalar.addi v3061 c192_i32_581
  v3062
def k0_mult43 (i : grid0.Coords) : BitVec 32 :=
  let arg2 : BitVec 32 := BitVec.ofNat 32 (i 2).val
  let c1024_i32_594 : BitVec 32 := 1024#32
  let v3135 : BitVec 32 := Scalar.muli arg2 c1024_i32_594
  let c224_i32_595 : BitVec 32 := 224#32
  let v3136 : BitVec 32 := Scalar.addi v3135 c224_i32_595
  v3136
def k0_mult44 (i : grid0.Coords) : BitVec 32 :=
  let arg2 : BitVec 32 := BitVec.ofNat 32 (i 2).val
  let c1024_i32_608 : BitVec 32 := 1024#32
  let v3209 : BitVec 32 := Scalar.muli arg2 c1024_i32_608
  let c256_i32_609 : BitVec 32 := 256#32
  let v3210 : BitVec 32 := Scalar.addi v3209 c256_i32_609
  v3210
def k0_mult45 (i : grid0.Coords) : BitVec 32 :=
  let arg2 : BitVec 32 := BitVec.ofNat 32 (i 2).val
  let c1024_i32_625 : BitVec 32 := 1024#32
  let v3292 : BitVec 32 := Scalar.muli arg2 c1024_i32_625
  let c288_i32_626 : BitVec 32 := 288#32
  let v3293 : BitVec 32 := Scalar.addi v3292 c288_i32_626
  v3293
def k0_mult46 (i : grid0.Coords) : BitVec 32 :=
  let arg2 : BitVec 32 := BitVec.ofNat 32 (i 2).val
  let c1024_i32_642 : BitVec 32 := 1024#32
  let v3375 : BitVec 32 := Scalar.muli arg2 c1024_i32_642
  let c320_i32_643 : BitVec 32 := 320#32
  let v3376 : BitVec 32 := Scalar.addi v3375 c320_i32_643
  v3376
def k0_mult47 (i : grid0.Coords) : BitVec 32 :=
  let arg2 : BitVec 32 := BitVec.ofNat 32 (i 2).val
  let c1024_i32_659 : BitVec 32 := 1024#32
  let v3458 : BitVec 32 := Scalar.muli arg2 c1024_i32_659
  let c352_i32_660 : BitVec 32 := 352#32
  let v3459 : BitVec 32 := Scalar.addi v3458 c352_i32_660
  v3459
def k0_mult48 (i : grid0.Coords) : BitVec 32 :=
  let arg2 : BitVec 32 := BitVec.ofNat 32 (i 2).val
  let c1024_i32_676 : BitVec 32 := 1024#32
  let v3541 : BitVec 32 := Scalar.muli arg2 c1024_i32_676
  let c384_i32_677 : BitVec 32 := 384#32
  let v3542 : BitVec 32 := Scalar.addi v3541 c384_i32_677
  v3542
def k0_mult49 (i : grid0.Coords) : BitVec 32 :=
  let arg2 : BitVec 32 := BitVec.ofNat 32 (i 2).val
  let c1024_i32_693 : BitVec 32 := 1024#32
  let v3624 : BitVec 32 := Scalar.muli arg2 c1024_i32_693
  let c416_i32_694 : BitVec 32 := 416#32
  let v3625 : BitVec 32 := Scalar.addi v3624 c416_i32_694
  v3625
def k0_mult50 (i : grid0.Coords) : BitVec 32 :=
  let arg2 : BitVec 32 := BitVec.ofNat 32 (i 2).val
  let c1024_i32_710 : BitVec 32 := 1024#32
  let v3707 : BitVec 32 := Scalar.muli arg2 c1024_i32_710
  let c448_i32_711 : BitVec 32 := 448#32
  let v3708 : BitVec 32 := Scalar.addi v3707 c448_i32_711
  v3708
def k0_mult51 (i : grid0.Coords) : BitVec 32 :=
  let arg2 : BitVec 32 := BitVec.ofNat 32 (i 2).val
  let c1024_i32_727 : BitVec 32 := 1024#32
  let v3790 : BitVec 32 := Scalar.muli arg2 c1024_i32_727
  let c480_i32_728 : BitVec 32 := 480#32
  let v3791 : BitVec 32 := Scalar.addi v3790 c480_i32_728
  v3791
def k0_mult52 (i : grid0.Coords) : BitVec 32 :=
  let arg2 : BitVec 32 := BitVec.ofNat 32 (i 2).val
  let c1024_i32_752 : BitVec 32 := 1024#32
  let v3891 : BitVec 32 := Scalar.muli arg2 c1024_i32_752
  let c512_i32_753 : BitVec 32 := 512#32
  let v3892 : BitVec 32 := Scalar.addi v3891 c512_i32_753
  v3892
def k0_mult53 (i : grid0.Coords) : BitVec 32 :=
  let arg2 : BitVec 32 := BitVec.ofNat 32 (i 2).val
  let c1024_i32_766 : BitVec 32 := 1024#32
  let v3965 : BitVec 32 := Scalar.muli arg2 c1024_i32_766
  let c544_i32_767 : BitVec 32 := 544#32
  let v3966 : BitVec 32 := Scalar.addi v3965 c544_i32_767
  v3966
def k0_mult54 (i : grid0.Coords) : BitVec 32 :=
  let arg2 : BitVec 32 := BitVec.ofNat 32 (i 2).val
  let c1024_i32_780 : BitVec 32 := 1024#32
  let v4039 : BitVec 32 := Scalar.muli arg2 c1024_i32_780
  let c576_i32_781 : BitVec 32 := 576#32
  let v4040 : BitVec 32 := Scalar.addi v4039 c576_i32_781
  v4040
def k0_mult55 (i : grid0.Coords) : BitVec 32 :=
  let arg2 : BitVec 32 := BitVec.ofNat 32 (i 2).val
  let c1024_i32_794 : BitVec 32 := 1024#32
  let v4113 : BitVec 32 := Scalar.muli arg2 c1024_i32_794
  let c608_i32_795 : BitVec 32 := 608#32
  let v4114 : BitVec 32 := Scalar.addi v4113 c608_i32_795
  v4114
def k0_mult56 (i : grid0.Coords) : BitVec 32 :=
  let arg2 : BitVec 32 := BitVec.ofNat 32 (i 2).val
  let c1024_i32_808 : BitVec 32 := 1024#32
  let v4187 : BitVec 32 := Scalar.muli arg2 c1024_i32_808
  let c640_i32_809 : BitVec 32 := 640#32
  let v4188 : BitVec 32 := Scalar.addi v4187 c640_i32_809
  v4188
def k0_mult57 (i : grid0.Coords) : BitVec 32 :=
  let arg2 : BitVec 32 := BitVec.ofNat 32 (i 2).val
  let c1024_i32_822 : BitVec 32 := 1024#32
  let v4261 : BitVec 32 := Scalar.muli arg2 c1024_i32_822
  let c672_i32_823 : BitVec 32 := 672#32
  let v4262 : BitVec 32 := Scalar.addi v4261 c672_i32_823
  v4262
def k0_mult58 (i : grid0.Coords) : BitVec 32 :=
  let arg2 : BitVec 32 := BitVec.ofNat 32 (i 2).val
  let c1024_i32_836 : BitVec 32 := 1024#32
  let v4335 : BitVec 32 := Scalar.muli arg2 c1024_i32_836
  let c704_i32_837 : BitVec 32 := 704#32
  let v4336 : BitVec 32 := Scalar.addi v4335 c704_i32_837
  v4336
def k0_mult59 (i : grid0.Coords) : BitVec 32 :=
  let arg2 : BitVec 32 := BitVec.ofNat 32 (i 2).val
  let c1024_i32_850 : BitVec 32 := 1024#32
  let v4409 : BitVec 32 := Scalar.muli arg2 c1024_i32_850
  let c736_i32_851 : BitVec 32 := 736#32
  let v4410 : BitVec 32 := Scalar.addi v4409 c736_i32_851
  v4410
def k0_mult60 (i : grid0.Coords) : BitVec 32 :=
  let arg2 : BitVec 32 := BitVec.ofNat 32 (i 2).val
  let c1024_i32_864 : BitVec 32 := 1024#32
  let v4483 : BitVec 32 := Scalar.muli arg2 c1024_i32_864
  let c768_i32_865 : BitVec 32 := 768#32
  let v4484 : BitVec 32 := Scalar.addi v4483 c768_i32_865
  v4484
def k0_mult61 (i : grid0.Coords) : BitVec 32 :=
  let arg2 : BitVec 32 := BitVec.ofNat 32 (i 2).val
  let c1024_i32_881 : BitVec 32 := 1024#32
  let v4566 : BitVec 32 := Scalar.muli arg2 c1024_i32_881
  let c800_i32_882 : BitVec 32 := 800#32
  let v4567 : BitVec 32 := Scalar.addi v4566 c800_i32_882
  v4567
def k0_mult62 (i : grid0.Coords) : BitVec 32 :=
  let arg2 : BitVec 32 := BitVec.ofNat 32 (i 2).val
  let c1024_i32_898 : BitVec 32 := 1024#32
  let v4649 : BitVec 32 := Scalar.muli arg2 c1024_i32_898
  let c832_i32_899 : BitVec 32 := 832#32
  let v4650 : BitVec 32 := Scalar.addi v4649 c832_i32_899
  v4650
def k0_mult63 (i : grid0.Coords) : BitVec 32 :=
  let arg2 : BitVec 32 := BitVec.ofNat 32 (i 2).val
  let c1024_i32_915 : BitVec 32 := 1024#32
  let v4732 : BitVec 32 := Scalar.muli arg2 c1024_i32_915
  let c864_i32_916 : BitVec 32 := 864#32
  let v4733 : BitVec 32 := Scalar.addi v4732 c864_i32_916
  v4733
def k0_mult64 (i : grid0.Coords) : BitVec 32 :=
  let arg2 : BitVec 32 := BitVec.ofNat 32 (i 2).val
  let c1024_i32_932 : BitVec 32 := 1024#32
  let v4815 : BitVec 32 := Scalar.muli arg2 c1024_i32_932
  let c896_i32_933 : BitVec 32 := 896#32
  let v4816 : BitVec 32 := Scalar.addi v4815 c896_i32_933
  v4816
def k0_mult65 (i : grid0.Coords) : BitVec 32 :=
  let arg2 : BitVec 32 := BitVec.ofNat 32 (i 2).val
  let c1024_i32_949 : BitVec 32 := 1024#32
  let v4898 : BitVec 32 := Scalar.muli arg2 c1024_i32_949
  let c928_i32_950 : BitVec 32 := 928#32
  let v4899 : BitVec 32 := Scalar.addi v4898 c928_i32_950
  v4899
def k0_mult66 (i : grid0.Coords) : BitVec 32 :=
  let arg2 : BitVec 32 := BitVec.ofNat 32 (i 2).val
  let c1024_i32_966 : BitVec 32 := 1024#32
  let v4981 : BitVec 32 := Scalar.muli arg2 c1024_i32_966
  let c960_i32_967 : BitVec 32 := 960#32
  let v4982 : BitVec 32 := Scalar.addi v4981 c960_i32_967
  v4982
def k0_mult67 (i : grid0.Coords) : BitVec 32 :=
  let arg2 : BitVec 32 := BitVec.ofNat 32 (i 2).val
  let c1024_i32_983 : BitVec 32 := 1024#32
  let v5064 : BitVec 32 := Scalar.muli arg2 c1024_i32_983
  let c992_i32_984 : BitVec 32 := 992#32
  let v5065 : BitVec 32 := Scalar.addi v5064 c992_i32_984
  v5065
def k0_off7 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v5179 : Index := Scalar.indexCast v1
  let c0_1017 : Index := 0#32
  ![v5179.toNat, 0]
def k0_cond4 (i : grid0.Coords) : BitVec 1 :=
  let arg1 : BitVec 32 := BitVec.ofNat 32 (i 1).val
  let c15_i32 : BitVec 32 := 15#32
  let v5193 : BitVec 1 := Scalar.cmpi .eq arg1 c15_i32
  let v5194 : BitVec 32 := Scalar.extui v5193
  let c0_i32_1026 : BitVec 32 := 0#32
  let v5195 : BitVec 1 := Scalar.cmpi .ne v5194 c0_i32_1026
  v5195

def k0_mult68 (i : grid0.Coords) : BitVec 32 :=
  let arg2 : BitVec 32 := BitVec.ofNat 32 (i 2).val
  let c1024_i32_1027 : BitVec 32 := 1024#32
  let v5196 : BitVec 32 := Scalar.muli arg2 c1024_i32_1027
  let c0_i32_1028 : BitVec 32 := 0#32
  let v5197 : BitVec 32 := Scalar.addi v5196 c0_i32_1028
  v5197
def k0_off8 (i : grid0.Coords) (c0_i32_1028 : BitVec 32) : Fin 2 → Nat :=
  let arg2 : BitVec 32 := BitVec.ofNat 32 (i 2).val
  let c1024_i32_1027 : BitVec 32 := 1024#32
  let v5196 : BitVec 32 := Scalar.muli arg2 c1024_i32_1027
  let v5197 : BitVec 32 := Scalar.addi v5196 c0_i32_1028
  let v5198 : BitVec 32 := v5197
  let v5202 : Index := Scalar.indexCast v5198
  let c0_1032 : Index := 0#32
  ![v5202.toNat, 0]
def k0_off9 (i : grid0.Coords) (c0_i32_1028 : BitVec 32) : Fin 2 → Nat :=
  let arg2 : BitVec 32 := BitVec.ofNat 32 (i 2).val
  let c1024_i32_1027 : BitVec 32 := 1024#32
  let v5196 : BitVec 32 := Scalar.muli arg2 c1024_i32_1027
  let v5197 : BitVec 32 := Scalar.addi v5196 c0_i32_1028
  let v5198 : BitVec 32 := v5197
  let v5210 : Index := Scalar.indexCast v5198
  let c0_1036 : Index := 0#32
  ![v5210.toNat, 0]
def k0_mult69 (i : grid0.Coords) : BitVec 32 :=
  let arg2 : BitVec 32 := BitVec.ofNat 32 (i 2).val
  let c1024_i32_1045 : BitVec 32 := 1024#32
  let v5235 : BitVec 32 := Scalar.muli arg2 c1024_i32_1045
  let c256_i32_1046 : BitVec 32 := 256#32
  let v5236 : BitVec 32 := Scalar.addi v5235 c256_i32_1046
  v5236
def k0_mult70 (i : grid0.Coords) : BitVec 32 :=
  let arg2 : BitVec 32 := BitVec.ofNat 32 (i 2).val
  let c1024_i32_1063 : BitVec 32 := 1024#32
  let v5274 : BitVec 32 := Scalar.muli arg2 c1024_i32_1063
  let c512_i32_1064 : BitVec 32 := 512#32
  let v5275 : BitVec 32 := Scalar.addi v5274 c512_i32_1064
  v5275
def k0_mult71 (i : grid0.Coords) : BitVec 32 :=
  let arg2 : BitVec 32 := BitVec.ofNat 32 (i 2).val
  let c1024_i32_1081 : BitVec 32 := 1024#32
  let v5313 : BitVec 32 := Scalar.muli arg2 c1024_i32_1081
  let c768_i32_1082 : BitVec 32 := 768#32
  let v5314 : BitVec 32 := Scalar.addi v5313 c768_i32_1082
  v5314
def k0_cond3 (i : grid0.Coords) : BitVec 1 :=
  let arg2 : BitVec 32 := BitVec.ofNat 32 (i 2).val
  let c7_i32 : BitVec 32 := 7#32
  let v5190 : BitVec 1 := Scalar.cmpi .eq arg2 c7_i32
  let v5191 : BitVec 32 := Scalar.extui v5190
  let c0_i32_1025 : BitVec 32 := 0#32
  let v5192 : BitVec 1 := Scalar.cmpi .ne v5191 c0_i32_1025
  v5192

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 1 := Scalar.cmpi .eq arg1 c15_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "ln_2" => some ((Real.log 2 : ℝ) : EReal)
  | "ln_2_over_seq" => some (((Real.log 2) * 8192⁻¹ : ℝ) : EReal)
  | "log2_e" => some (((Real.log 2)⁻¹ : ℝ) : EReal)
  | _ => none
-- ==== ReferenceIdeal.lean ====
abbrev S2x8192x768 : Shape := ⟨3, ![2, 8192, 768]⟩
abbrev S2x8192 : Shape := ⟨2, ![2, 8192]⟩
abbrev S_ : Shape := ⟨0, ![]⟩
abbrev S1 : Shape := ⟨1, ![1]⟩
abbrev S2x1x8192 : Shape := ⟨3, ![2, 1, 8192]⟩
abbrev S1x1x1 : Shape := ⟨3, ![1, 1, 1]⟩
abbrev S2x8192x1 : Shape := ⟨3, ![2, 8192, 1]⟩
abbrev S2x8192x8192 : Shape := ⟨3, ![2, 8192, 8192]⟩

abbrev nBuf : Space → Nat
  | .hbm => 13
  | .vmem => 9
  | .smem => 2
  | _ => 0

abbrev bufTy : (tb : Table) → Fin (tcTables nBuf tb) → BufTy
  | .hbm, ⟨0, _⟩ => ⟨S2x8192x768, .fp8e4m3⟩
  | .hbm, ⟨1, _⟩ => ⟨S2x8192, .f32⟩
  | .hbm, ⟨2, _⟩ => ⟨S2x8192x768, .fp8e4m3⟩
  | .hbm, ⟨3, _⟩ => ⟨S2x8192, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S2x1x8192, .f32⟩
  | .hbm, ⟨9, _⟩ => ⟨S2x8192x768, .bf16⟩
  | .hbm, ⟨10, _⟩ => ⟨S2x8192x768, .bf16⟩
  | .hbm, ⟨11, _⟩ => ⟨S2x1x8192, .f32⟩
  | .hbm, ⟨12, _⟩ => ⟨S2x1x8192, .f32⟩
  | .local _ .vmem, ⟨0, _⟩ => ⟨S2x8192x768, .fp8e4m3⟩
  | .local _ .vmem, ⟨1, _⟩ => ⟨S2x8192, .f32⟩
  | .local _ .vmem, ⟨2, _⟩ => ⟨S2x8192x768, .fp8e4m3⟩
  | .local _ .vmem, ⟨3, _⟩ => ⟨S2x8192, .f32⟩
  | .local _ .vmem, ⟨4, _⟩ => ⟨S2x1x8192, .f32⟩
  | .local _ .vmem, ⟨5, _⟩ => ⟨S2x8192x768, .bf16⟩
  | .local _ .vmem, ⟨6, _⟩ => ⟨S2x8192x768, .bf16⟩
  | .local _ .vmem, ⟨7, _⟩ => ⟨S2x1x8192, .f32⟩
  | .local _ .vmem, ⟨8, _⟩ => ⟨S2x1x8192, .f32⟩
  | .local _ .smem, ⟨0, _⟩ => ⟨S1, .f32⟩
  | .local _ .smem, ⟨1, _⟩ => ⟨S1, .f32⟩
  | _, _ => ⟨S2x8192x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8192x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Run.lean ====
/-
  One grid point of the kernel, run symbolically from any contents of its buffers: the inputs are left as they were, and every buffer it
  stores into is handed back at some contents.
-/
module

public import proofs.«01_k».proof.Proof.Gen.Kernel.Frame
public import proofs.«01_k».proof.Proof.Gen.Kernel.Loops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer held whole at contents `f`. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

set_option maxHeartbeats 4000000 in
/-- The body runs from any contents of its buffers and leaves its inputs as they were. -/
theorem kernelRun (c : Dev nD) (i : grid0.Coords) (arg3 : Memref sig .tc .smem S1 .f32) (harg3 : arg3.IsWhole) (arg4 : Memref sig .tc .smem S1 .f32) (harg4 : arg4.IsWhole) (arg5 : Memref sig .tc .vmem S1x1x512 .f32) (harg5 : arg5.IsWhole) (arg6 : Memref sig .tc .vmem S1x1x1024 .f32) (harg6 : arg6.IsWhole) (arg7 : Memref sig .tc .vmem S1x512x768 .fp8e4m3) (harg7 : arg7.IsWhole) (arg8 : Memref sig .tc .vmem S1x1024x768 .fp8e4m3) (harg8 : arg8.IsWhole) (arg9 : Memref sig .tc .vmem S1x1x512 .f32) (harg9 : arg9.IsWhole) (arg10 : Memref sig .tc .vmem S1x512x768 .bf16) (harg10 : arg10.IsWhole) (arg11 : Memref sig .tc .vmem S1x1024x768 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S2x1024x256 .f32) (harg14 : arg14.IsWhole) (arg15 : Memref sig .tc .vmem S1024x512 .bf16) (harg15 : arg15.IsWhole) (arg16 : Memref sig .tc .vmem S768x512 .f32) (harg16 : arg16.IsWhole) (arg17 : Memref sig .tc .vmem S8192x768 .f32) (harg17 : arg17.IsWhole) (arg18 : Memref sig .tc .vmem S768x8192 .bf16) (harg18 : arg18.IsWhole) (arg19 : Memref sig .tc .vmem S8192x128 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x512 .f32) (harg23 : arg23.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (E : Set ℕ) (K : PUnit → sProp 𝕄) :
    iprop(held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21 ∗ held c arg22 f22 ∗ held c arg23 f23
        ∗ (iprop(held c arg3 f3 ∗ held c arg4 f4 ∗ held c arg5 f5 ∗ held c arg6 f6 ∗ held c arg7 f7 ∗ held c arg8 f8 ∗ (∃ g, held c arg9 g) ∗ (∃ g, held c arg10 g) ∗ (∃ g, held c arg11 g) ∗ (∃ g, held c arg12 g) ∗ (∃ g, held c arg13 g) ∗ (∃ g, held c arg14 g) ∗ (∃ g, held c arg15 g) ∗ (∃ g, held c arg16 g) ∗ (∃ g, held c arg17 g) ∗ (∃ g, held c arg18 g) ∗ (∃ g, held c arg19 g) ∗ (∃ g, held c arg20 g) ∗ (∃ g, held c arg21 g) ∗ (∃ g, held c arg22 g) ∗ (∃ g, held c arg23 g)) -∗ K ⟨⟩))
      ⊢ wp frame (wpE (defs₀ (F := F)) Variants.none c none) E (cc0_siglip_fused i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases h1 : k0_cond1 i = 1#1
  all_goals
    unfold held
    iintro ⟨H3, H4, H5, H6, H7, H8, H9, H10, H11, H12, H13, H14, H15, H16, H17, H18, H19, H20, H21, H22, H23, Hk⟩
    sl_unfold [cc0_siglip_fused]
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Proof.Kernel

end
-- ==== Proof.Kernel.Frame.lean ====
/-
  The kernel terminates, faults nowhere and leaves its arguments unchanged: the body of each grid point runs from any contents of
  its scratch and of its results' staging buffers (`kernelRun`), so the pipeline runs with those forgotten.
-/
module

public import proofs.«01_k».proof.Proof.Kernel.Run

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' windows are forgotten. -/
def fgt : Fin 11 → Bool := fun w => decide (6 ≤ w.val)

/-- The pipeline's data on core `c`: an input's buffer is left at its block; a result's is not named; the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ _ := Pipeline.ΦA spec0 c
  q _ := fullShare
  owed _ := 0

/-- A whole scratch buffer held is its points-to. -/
theorem held_whole (c : Dev nD) (b : Ref sig .tc) (f : Buf (Elt F) ((c : Thread nD τ).loc b)) :
    (held (F := F) c (Memref.whole b) f : sProp 𝕄) = ((c : Thread nD τ).loc b ↦{fullShare} f) := by
  unfold held; simp only [Memref.view_whole, View.set_whole]

/-- What the body at point `t` is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- What the body at point `t` returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

set_option maxHeartbeats 4000000 in
/-- The body at a point: the buffers handed to `kernelRun`, and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA owns
  rw [scopedRest0_eq]
  simp only [← held_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hg⟩, Ho, ⟨%d0, %x0, %hx0, H0⟩, ⟨%d1, %x1, %hx1, H1⟩, ⟨%d2, %x2, %hx2, H2⟩, ⟨%d3, %x3, %hx3, H3⟩, ⟨%d4, %x4, %hx4, H4⟩, ⟨%d5, %x5, %hx5, H5⟩, ⟨%d6, %x6, %hx6, H6⟩, ⟨%d7, %x7, %hx7, H7⟩, ⟨%d8, %x8, %hx8, H8⟩, ⟨%d9, %x9, %hx9, H9⟩, ⟨%d10, %x10, %hx10, H10⟩⟩
  iapply (kernelRun c (grid0.coords t) _ _ _ _ _ _ _ _ _ _ _ _ _ _ _ _ _ _ _ _ _ _ _ _ _ _ _ _ _ _ _ _ _ _ _ _ _ _ _ _ _ _ x0 x1 x2 x3 x4 x5 x6 x7 x8 x9 x10 s0 s1 s2 s3 s4 s5 s6 s7 s8 s9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, ⟨%g6, H6⟩, ⟨%g7, H7⟩, ⟨%g8, H8⟩, ⟨%g9, H9⟩, ⟨%g10, H10⟩, ⟨%r0, S0⟩, ⟨%r1, S1⟩, ⟨%r2, S2⟩, ⟨%r3, S3⟩, ⟨%r4, S4⟩, ⟨%r5, S5⟩, ⟨%r6, S6⟩, ⟨%r7, S7⟩, ⟨%r8, S8⟩, ⟨%r9, S9⟩⟩
  isplitl [S0 S1 S2 S3 S4 S5 S6 S7 S8 S9 Hg]
  · isplitl [S0 S1 S2 S3 S4 S5 S6 S7 S8 S9]
    · isplitl [S0]; · iexists r0; iexact S0
      isplitl [S1]; · iexists r1; iexact S1
      isplitl [S2]; · iexists r2; iexact S2
      isplitl [S3]; · iexists r3; iexact S3
      isplitl [S4]; · iexists r4; iexact S4
      isplitl [S5]; · iexists r5; iexact S5
      isplitl [S6]; · iexists r6; iexact S6
      isplitl [S7]; · iexists r7; iexact S7
      isplitl [S8]; · iexists r8; iexact S8
      iexists r9; iexact S9
    iexact Hg
  isplitl [Ho]; · iexact Ho
  isplitl [H0]; · iexists x0; isplitr; · (ipureintro; exact hx0)
                  iexact H0
  isplitl [H1]; · iexists x1; isplitr; · (ipureintro; exact hx1)
                  iexact H1
  isplitl [H2]; · iexists x2; isplitr; · (ipureintro; exact hx2)
                  iexact H2
  isplitl [H3]; · iexists x3; isplitr; · (ipureintro; exact hx3)
                  iexact H3
  isplitl [H4]; · iexists x4; isplitr; · (ipureintro; exact hx4)
                  iexact H4
  isplitl [H5]; · iexists x5; isplitr; · (ipureintro; exact hx5)
                  iexact H5
  isplitl [H6]; · iexists _, g6; isplitr; swap; · iexact H6
                  ipureintro; rfl
  isplitl [H7]; · iexists _, g7; isplitr; swap; · iexact H7
                  ipureintro; rfl
  isplitl [H8]; · iexists _, g8; isplitr; swap; · iexact H8
                  ipureintro; rfl
  isplitl [H9]; · iexists _, g9; isplitr; swap; · iexact H9
                  ipureintro; rfl
  iexists _, g10; isplitr; swap; · iexact H10
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

-- the run theorem's implicit arguments are found by unifying its conclusion with this one
set_option backward.isDefEq.respectTransparency.types false in
/-- Every weakly fair execution terminates, with the staged inputs' arrays and the rest of memory as they were and every
    semaphore counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame claim's statement at any float semantics. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1.arr_in c 4 rfl).trans (V_main_arg0 m c),
      ((h.1 c).2 main_arg1 (Pipeline.mem_restRefs_of main_arg1 (by decide) (by decide))).trans (V_main_arg1 m c),
      (h.1.arr_in c 5 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Proof.Kernel

end
-- ==== Proof.Ideal.Slab.lean ====
/-
  The kernel's elementwise section, one slab of 32 rows by 256 columns at a time. The printed program spells out 64 slabs, each with its
  own payloads; here is ONE slab as a function of what it reads, and the iterate over the slabs of a column chunk.
-/
module

public import proofs.«01_k».proof.Proof.Gen.KernelIdeal.Frame

@[expose] public section

noncomputable section

namespace Cert.Proof.KernelIdeal

open Cert.KernelIdeal Cert.KernelIdeal.Gen
open Idealize.ShloMosaic

variable {F : FTy → Type} [FloatOps F] [Named F]

/-- The running values of a column chunk: `q` and `p` hold the product of the `1 + e` met so far (less one, and itself), `l`, `d`, `b` the partial sums of the
three row results. -/
structure St (F : FTy → Type) where
  q : FVec F S8x256 .f32
  p : FVec F S8x256 .f32
  l : FVec F S8x256 .f32
  d : FVec F S8x256 .f32
  b : FVec F S8x256 .f32

/-- A constant all over a slab. -/
abbrev kS (w : BitVec 32) : FVec F S32x256 .f32 := broadcast S32x256 (Scalar.ofBits .f32 w)
/-- A constant all over a slice of eight rows. -/
abbrev k8 (w : BitVec 32) : FVec F S8x256 .f32 := broadcast S8x256 (Scalar.ofBits .f32 w)

/-- The factor of a slab's scores: the row's inverse norm times `A`, the column's. -/
def slabF (A : FVec F S1x256 .f32) (bt : Vec F S32x128 .f32) : FVec F S32x256 .f32 :=
  mulf (concatenate S32x256 1 [⟨S32x128, bt⟩, ⟨S32x128, bt⟩] concatenates_S32x128_S32x128_S32x256_d1) (broadcastTo S32x256 A broadcasts_S1x256_S32x256)

/-- The scaled scores of a slab. -/
def slabZ (A : FVec F S1x256 .f32) (bt : Vec F S32x128 .f32) (raw : Vec F S1x32x256 .f32) : FVec F S32x256 .f32 :=
  mulf (shapeCast S32x256 raw shapeCasts_S1x32x256_S32x256) (slabF A bt)

/-- Whether slab `s` of chunk `c` can meet the diagonal. -/
def onDiag (c s : ℕ) : Bool := ((32 * s + 512 - 256 * c) % 512).blt 256

/-- Where the diagonal passes through slab `s` of chunk `c`. -/
def slabEye (c s : ℕ) (diag : BitVec 32) (rc : IVec S32x256 32) : IVec S32x256 1 :=
  cmpi .eq rc (broadcast S32x256 (Scalar.addi diag (BitVec.ofNat 32 ((4294967296 + 256 * c - 32 * s) % 4294967296))))

/-- Its negation, taken on the diagonal only. -/
def slabNeg (c s : ℕ) (diag : BitVec 32) (rc : IVec S32x256 32) (l : FVec F S32x256 .f32) : FVec F S32x256 .f32 :=
  cond (onDiag c s) (select (slabEye c s diag rc) (subf (kS 0x00000000#32) l) l) l

/-- The logits of a slab, in base two. -/
def slabL (c s : ℕ) (diag : BitVec 32) (rc : IVec S32x256 32) (b2 : F .f32) (z : FVec F S32x256 .f32) : FVec F S32x256 .f32 :=
  slabNeg c s diag rc (addf z (broadcast S32x256 b2))

/-- `e = 2^(-|l|)`. -/
def slabE (l : FVec F S32x256 .f32) : FVec F S32x256 .f32 := exp2 (subf (kS 0x00000000#32) (absf l))

/-- `1 + e`. -/
def slabP (l : FVec F S32x256 .f32) : FVec F S32x256 .f32 := addf (kS 0x3F800000#32) (slabE l)

/-- The sigmoid of the logits. -/
def slabR (l : FVec F S32x256 .f32) : FVec F S32x256 .f32 :=
  select (cmpf .oge l (kS 0x00000000#32)) (divf (kS 0x3F800000#32) (slabP l)) (mulf (slabE l) (divf (kS 0x3F800000#32) (slabP l)))

/-- The sigmoid, with the sign of the pair. -/
def slabSg (c s : ℕ) (diag : BitVec 32) (rc : IVec S32x256 32) (l : FVec F S32x256 .f32) : FVec F S32x256 .f32 :=
  slabNeg c s diag rc (slabR l)

/-- The eight rows from row `8 k` of a slab. -/
def rows8 (k : Fin 4) (v : FVec F S32x256 .f32) : FVec F S8x256 .f32 :=
  match k with
  | 0 => extractStridedSlice S8x256 ![0, 0] v slices_S32x256_o0_0_S8x256
  | 1 => extractStridedSlice S8x256 ![8, 0] v slices_S32x256_o8_0_S8x256
  | 2 => extractStridedSlice S8x256 ![16, 0] v slices_S32x256_o16_0_S8x256
  | 3 => extractStridedSlice S8x256 ![24, 0] v slices_S32x256_o24_0_S8x256

/-- A slab folded onto eight rows. -/
def fold8 (v : FVec F S32x256 .f32) : FVec F S8x256 .f32 :=
  addf (addf (rows8 0 v) (rows8 1 v)) (addf (rows8 2 v) (rows8 3 v))

/-- The increment of the running product. -/
def slabW (p : FVec F S8x256 .f32) (l : FVec F S32x256 .f32) : FVec F S8x256 .f32 :=
  mulf (addf (addf (rows8 0 (slabE l)) (mulf (rows8 1 (slabE l)) (rows8 0 (slabP l))))
    (mulf (addf (rows8 2 (slabE l)) (mulf (rows8 3 (slabE l)) (rows8 2 (slabP l))))
      (addf (k8 0x3F800000#32) (addf (rows8 0 (slabE l)) (mulf (rows8 1 (slabE l)) (rows8 0 (slabP l))))))) p

/-- `log (1 + q)`, in base two. -/
def logQ (q : FVec F S8x256 .f32) : FVec F S8x256 .f32 :=
  mulf (select (cmpf .oeq (subf (addf (k8 0x3F800000#32) q) (k8 0x3F800000#32)) (k8 0x00000000#32)) q
    (mulf (log (addf (k8 0x3F800000#32) q))
      (divf q (select (cmpf .oeq (subf (addf (k8 0x3F800000#32) q) (k8 0x3F800000#32)) (k8 0x00000000#32)) (k8 0x3F800000#32)
        (subf (addf (k8 0x3F800000#32) q) (k8 0x3F800000#32))))))
    (broadcast S8x256 (Named.named κ "log2_e" 0x3FB8AA3B#32))

/-- What the slabs of a chunk read. -/
structure In (F : FTy → Type) where
  c : ℕ
  diag : BitVec 32
  rc : IVec S32x256 32
  A : FVec F S1x256 .f32
  b2 : F .f32
  raw : (s : ℕ) → s < 32 → Vec F S1x32x256 .f32
  bt : (s : ℕ) → s < 32 → Vec F S32x128 .f32

/-- The scaled scores of slab `s`. -/
def In.z (I : In F) (s : ℕ) (h : s < 32) : FVec F S32x256 .f32 := slabZ I.A (I.bt s h) (I.raw s h)
/-- The logits of slab `s`. -/
def In.lg (I : In F) (s : ℕ) (h : s < 32) : FVec F S32x256 .f32 := slabL I.c s I.diag I.rc I.b2 (I.z s h)
/-- The signed sigmoids of slab `s`. -/
def In.sg (I : In F) (s : ℕ) (h : s < 32) : FVec F S32x256 .f32 := slabSg I.c s I.diag I.rc (I.lg s h)
/-- What slab `s` leaves for the matrix products. -/
def In.out (I : In F) (s : ℕ) (h : s < 32) : FVec F S32x256 .bf16 :=
  shapeCast S32x256 (truncf .bf16 (mulf (I.sg s h) (slabF I.A (I.bt s h))) bitsLt_bf16_f32) shapeCasts_S32x256_S32x256

/-- One slab's step of the running values; after the last slab of a group of 16 the product goes into the loss and starts again. -/
def In.step (I : In F) (s : ℕ) (h : s < 32) (a : St F) : St F where
  q := cond (Nat.beq (s % 16) 0) (addf (k8 0x00000000#32) (slabW (k8 0x3F800000#32) (I.lg s h))) (addf a.q (slabW a.p (I.lg s h)))
  p := cond (Nat.beq (s % 16) 0) (addf (k8 0x3F800000#32) (slabW (k8 0x3F800000#32) (I.lg s h))) (addf a.p (slabW a.p (I.lg s h)))
  l := cond (Nat.beq (s % 16) 15)
    (addf (addf a.l (fold8 (maximumf (I.lg s h) (kS 0x00000000#32)))) (logQ (addf a.q (slabW a.p (I.lg s h)))))
    (addf a.l (fold8 (maximumf (I.lg s h) (kS 0x00000000#32))))
  d := addf a.d (fold8 (mulf (I.sg s h) (I.z s h)))
  b := addf a.b (fold8 (I.sg s h))

/-- The running values before slab `k`. -/
def In.st (I : In F) (a : St F) : (k : ℕ) → k ≤ 32 → St F
  | 0, _ => a
  | k + 1, h => I.step k h (I.st a k (Nat.le_of_succ_le h))

end Cert.Proof.KernelIdeal

end
-- ==== Proof.Ideal.Point.lean ====
/-
  One grid point of the kernel as functions of what its buffers hold: what the two column chunks read, what the buffers hold after the point,
  and the statement of it all, which the run proves.
-/
module

public import proofs.«01_k».proof.Proof.Ideal.Slab
public import proofs.«01_k».proof.Proof.Gen.KernelIdeal.Loops
public import Idealize.ShloMosaic.Lib.WritesUnit

@[expose] public section

set_option maxRecDepth 16384

noncomputable section

namespace Cert.Proof.KernelIdeal

open Cert.KernelIdeal Cert.KernelIdeal.Gen
open Idealize.ShloMosaic

variable {F : FTy → Type} [FloatOps F] [Named F]

/-- The slab starting at row `32 s` of one of the two score buffers is inside them. -/
theorem raw_inb (c s : ℕ) (hc : c < 2) (hs : s < 32) : ∀ a : Fin 3, (![c, 32 * s, 0] : Fin 3 → ℕ) a + S1x32x256.size a ≤ S2x1024x256.size a := by
  intro a; fin_cases a <;> simp <;> omega

/-- Rows of `x` for chunk `c`. -/
theorem x_inb (c : ℕ) (hc : c < 2) : ∀ a : Fin 3, (![0, 256 * c, 0] : Fin 3 → ℕ) a + S1x256x768.size a ≤ S1x512x768.size a := by
  intro a; fin_cases a <;> simp <;> omega

/-- One row of chunk `c` of the column factors. -/
theorem al_inb (c : ℕ) (hc : c < 2) : ∀ a : Fin 2, (![0, 256 * c] : Fin 2 → ℕ) a + S1x256.size a ≤ S8x512.size a := by
  intro a; fin_cases a <;> simp <;> omega

/-- Eight rows of chunk `c`. -/
theorem ch_inb (c : ℕ) (hc : c < 2) : ∀ a : Fin 2, (![0, 256 * c] : Fin 2 → ℕ) a + S8x256.size a ≤ S8x512.size a := by
  intro a; fin_cases a <;> simp <;> omega

/-- One of the two score buffers. -/
theorem sc_inb (c : ℕ) (hc : c < 2) : ∀ a : Fin 3, (![c, 0, 0] : Fin 3 → ℕ) a + S1x1024x256.size a ≤ S2x1024x256.size a := by
  intro a; fin_cases a <;> simp <;> omega

variable (i : grid0.Coords) (arg3 : Memref sig .tc .smem S1 .f32) (arg4 : Memref sig .tc .smem S1 .f32) (arg7 : Memref sig .tc .vmem S1x512x768 .fp8e4m3) (arg8 : Memref sig .tc .vmem S1x1024x768 .fp8e4m3) (arg9 arg12 arg13 : Memref sig .tc .vmem S1x1x512 .f32) (arg14 : Memref sig .tc .vmem S2x1024x256 .f32) (arg19 : Memref sig .tc .vmem S8192x128 .f32) (arg20 arg21 arg22 arg23 : Memref sig .tc .vmem S8x512 .f32)
  (f3 : BufTy.Contents (Elt F) arg3.view.ty) (f4 : BufTy.Contents (Elt F) arg4.view.ty) (f7 : BufTy.Contents (Elt F) arg7.view.ty) (f8 : BufTy.Contents (Elt F) arg8.view.ty)

/-- The first point of a row of blocks. -/
def J0 : Prop := Scalar.cmpi .ne (Scalar.extui (Scalar.cmpi .eq (BitVec.ofNat 32 (i 2).val) 0#32) : BitVec 32) 0#32 = 1#1

instance : Decidable (J0 i) := inferInstanceAs (Decidable (_ = _))

/-- The rows of `x` of chunk `c`. -/
def xRows (c : ℕ) (hc : c < 2) : Vec F S1x256x768 .fp8e4m3 :=
  View.readAt (Elt F) arg7.view (Rect.unit (s := S1x512x768) ![0, 256 * c, 0] S1x256x768.size (x_inb c hc)).toLoadRect f7

/-- The stores of the two score buffers. -/
def rawL : List (View.Piece (Elt F) S2x1024x256 .f32) :=
  [⟨Rect.unit ![1, 0, 0] S1x1024x256.size (sc_inb 1 (by omega)), k0_pay30 (View.readAt (Elt F) arg8.view (Rect.unit (s := S1x1024x768) ![0, 0, 0] S1x1024x768.size inb_S1x1024x768_S1x1024x768_0_0_0).toLoadRect f8) (xRows arg7 f7 1 (by omega))⟩,
    ⟨Rect.unit ![0, 0, 0] S1x1024x256.size (sc_inb 0 (by omega)), k0_pay30 (View.readAt (Elt F) arg8.view (Rect.unit (s := S1x1024x768) ![0, 0, 0] S1x1024x768.size inb_S1x1024x768_S1x1024x768_0_0_0).toLoadRect f8) (xRows arg7 f7 0 (by omega))⟩]

/-- What the slabs of chunk `c` read, `g19` and `g20` being what the row and column factors' buffers hold. -/
def ptIn (c : ℕ) (hc : c < 2) (g19 : BufTy.Contents (Elt F) arg19.view.ty) (g20 : BufTy.Contents (Elt F) arg20.view.ty) : In F where
  c := c
  diag := Scalar.subi (Scalar.muli (BitVec.ofNat 32 (i 1).val) 512#32) (Scalar.muli (BitVec.ofNat 32 (i 2).val) 1024#32)
  rc := k0_pay29
  A := mulf (View.readAt (Elt F) arg20.view (Rect.unit (s := S8x512) ![0, 256 * c] S1x256.size (al_inb c hc)).toLoadRect g20)
    (k0_pay27 (View.readAt (Elt F) arg3.view (Rect.unit (s := S1) ![0] S1.size inb_S1_S1_0).toLoadRect f3 (Shape.Idx.first (by decide))))
  b2 := k0_pay28 (View.readAt (Elt F) arg4.view (Rect.unit (s := S1) ![0] S1.size inb_S1_S1_0).toLoadRect f4 (Shape.Idx.first (by decide)))
  raw s h := arg14.view.readCov (rawL arg7 arg8 f7 f8) (Rect.unit (s := S2x1024x256) ![c, 32 * s, 0] S1x32x256.size (raw_inb c s hc h)).toLoadRect
  bt s h := View.readAt (Elt F) arg19.view (Rect.unit (s := S8192x128) (k0_off5 i (BitVec.ofNat 32 (32 * s))) S32x128.size (k0_off5_inb i ⟨s, h⟩)).toLoadRect g19

/-- A row-sum buffer before the point's slabs: zero at the first point of a row of blocks, else as it was. -/
def zeroed (m : Memref sig .tc .vmem S8x512 .f32) (v : FVec F S8x512 .f32) (f : BufTy.Contents (Elt F) m.view.ty) : BufTy.Contents (Elt F) m.view.ty :=
  if J0 i then m.view.writes (Elt F) f [⟨Rect.unit ![0, 0] S8x512.size inb_S8x512_S8x512_0_0, v⟩] else f

/-- Chunk `c` of such a buffer. -/
def chunk (c : ℕ) (hc : c < 2) (m : Memref sig .tc .vmem S8x512 .f32) (f : BufTy.Contents (Elt F) m.view.ty) : FVec F S8x256 .f32 :=
  View.readAt (Elt F) m.view (Rect.unit (s := S8x512) ![0, 256 * c] S8x256.size (ch_inb c hc)).toLoadRect f

/-- The running values after the slabs of chunk `c`. -/
def ptSt (c : ℕ) (hc : c < 2) (g19 : BufTy.Contents (Elt F) arg19.view.ty) (g20 : BufTy.Contents (Elt F) arg20.view.ty)
    (z21 : BufTy.Contents (Elt F) arg21.view.ty) (z22 : BufTy.Contents (Elt F) arg22.view.ty) (z23 : BufTy.Contents (Elt F) arg23.view.ty) : St F :=
  (ptIn i arg3 arg4 arg7 arg8 arg14 arg19 arg20 f3 f4 f7 f8 c hc g19 g20).st
    ⟨k8 0x00000000#32, k8 0x3F800000#32, chunk c hc arg21 z21, chunk c hc arg22 z22, chunk c hc arg23 z23⟩ 32 (Nat.le_refl 32)

/-- The stores of the two chunks of a row-sum buffer. -/
def two (a b : FVec F S8x256 .f32) : List (View.Piece (Elt F) S8x512 .f32) :=
  [⟨Rect.unit ![0, 256] S8x256.size (ch_inb 1 (by omega)), shapeCast S8x256 b shapeCasts_S8x256_S8x256⟩,
    ⟨Rect.unit ![0, 0] S8x256.size (ch_inb 0 (by omega)), shapeCast S8x256 a shapeCasts_S8x256_S8x256⟩]

/-- A whole row-sum buffer. -/
def whole8 (m : Memref sig .tc .vmem S8x512 .f32) (L : List (View.Piece (Elt F) S8x512 .f32)) : FVec F S8x512 .f32 :=
  m.view.readCov L (Rect.unit (s := S8x512) ![0, 0] S8x512.size inb_S8x512_S8x512_0_0).toLoadRect

/-- What the buffers of the three row results hold after the point. -/
structure RowFacts (f9 g9 : BufTy.Contents (Elt F) arg9.view.ty) (f12 g12 : BufTy.Contents (Elt F) arg12.view.ty) (f13 g13 : BufTy.Contents (Elt F) arg13.view.ty)
    (f19 g19 : BufTy.Contents (Elt F) arg19.view.ty) (f20 g20 : BufTy.Contents (Elt F) arg20.view.ty)
    (f21 g21 : BufTy.Contents (Elt F) arg21.view.ty) (f22 g22 : BufTy.Contents (Elt F) arg22.view.ty) (f23 g23 : BufTy.Contents (Elt F) arg23.view.ty) : Prop where
  /-- The row factors of `y` are made on the first row of blocks. -/
  h19 : ∀ h : k0_cond1 i = 1#1, g19 = arg19.view.writes (Elt F) f19 (View.tilePieces (NT := k0_t1_loop.trips) S256x128.size (fun k => k0_off2 i k) (fun k => k0_off2_inb i k h)
      (fun k => k0_pay5 (View.readAt (Elt F) arg8.view (Rect.unit (s := S1x1024x768) (k0_off1 k) S1x256x768.size (k0_off1_inb i k h)).toLoadRect f8)) k0_t1_loop.trips (Nat.le_refl _))
  h19' : ¬ k0_cond1 i = 1#1 → g19 = f19
  /-- The column factors of `x` are made at the first point of a row of blocks. -/
  h20 : g20 = if J0 i then arg20.view.writes (Elt F) f20 [⟨Rect.unit ![0, 256] S8x256.size (ch_inb 1 (by omega)), k0_pay8 (xRows arg7 f7 1 (by omega))⟩,
      ⟨Rect.unit ![0, 0] S8x256.size (ch_inb 0 (by omega)), k0_pay8 (xRows arg7 f7 0 (by omega))⟩] else f20
  h21 : g21 = arg21.view.writes (Elt F) (zeroed i arg21 k0_pay24 f21)
      (two (ptSt i arg3 arg4 arg7 arg8 arg14 arg19 arg20 arg21 arg22 arg23 f3 f4 f7 f8 0 (by omega) g19 g20 (zeroed i arg21 k0_pay24 f21) (zeroed i arg22 k0_pay25 f22) (zeroed i arg23 k0_pay26 f23)).l
        (ptSt i arg3 arg4 arg7 arg8 arg14 arg19 arg20 arg21 arg22 arg23 f3 f4 f7 f8 1 (by omega) g19 g20 (zeroed i arg21 k0_pay24 f21) (zeroed i arg22 k0_pay25 f22) (zeroed i arg23 k0_pay26 f23)).l)
  h22 : g22 = arg22.view.writes (Elt F) (zeroed i arg22 k0_pay25 f22)
      (two (ptSt i arg3 arg4 arg7 arg8 arg14 arg19 arg20 arg21 arg22 arg23 f3 f4 f7 f8 0 (by omega) g19 g20 (zeroed i arg21 k0_pay24 f21) (zeroed i arg22 k0_pay25 f22) (zeroed i arg23 k0_pay26 f23)).d
        (ptSt i arg3 arg4 arg7 arg8 arg14 arg19 arg20 arg21 arg22 arg23 f3 f4 f7 f8 1 (by omega) g19 g20 (zeroed i arg21 k0_pay24 f21) (zeroed i arg22 k0_pay25 f22) (zeroed i arg23 k0_pay26 f23)).d)
  h23 : g23 = arg23.view.writes (Elt F) (zeroed i arg23 k0_pay26 f23)
      (two (ptSt i arg3 arg4 arg7 arg8 arg14 arg19 arg20 arg21 arg22 arg23 f3 f4 f7 f8 0 (by omega) g19 g20 (zeroed i arg21 k0_pay24 f21) (zeroed i arg22 k0_pay25 f22) (zeroed i arg23 k0_pay26 f23)).b
        (ptSt i arg3 arg4 arg7 arg8 arg14 arg19 arg20 arg21 arg22 arg23 f3 f4 f7 f8 1 (by omega) g19 g20 (zeroed i arg21 k0_pay24 f21) (zeroed i arg22 k0_pay25 f22) (zeroed i arg23 k0_pay26 f23)).b)
  /-- The row results are folded and stored at the last point of a row of blocks. -/
  h9 : k0_cond3 i = 1#1 → g9 = arg9.view.writes (Elt F) f9 [⟨Rect.unit ![0, 0, 0] S1x1x512.size inb_S1x1x512_S1x1x512_0_0_0, k0_pay10 (whole8 arg21
      (two (ptSt i arg3 arg4 arg7 arg8 arg14 arg19 arg20 arg21 arg22 arg23 f3 f4 f7 f8 0 (by omega) g19 g20 (zeroed i arg21 k0_pay24 f21) (zeroed i arg22 k0_pay25 f22) (zeroed i arg23 k0_pay26 f23)).l
        (ptSt i arg3 arg4 arg7 arg8 arg14 arg19 arg20 arg21 arg22 arg23 f3 f4 f7 f8 1 (by omega) g19 g20 (zeroed i arg21 k0_pay24 f21) (zeroed i arg22 k0_pay25 f22) (zeroed i arg23 k0_pay26 f23)).l))⟩]
  h12 : k0_cond3 i = 1#1 → g12 = arg12.view.writes (Elt F) f12 [⟨Rect.unit ![0, 0, 0] S1x1x512.size inb_S1x1x512_S1x1x512_0_0_0, k0_pay11 (whole8 arg22
      (two (ptSt i arg3 arg4 arg7 arg8 arg14 arg19 arg20 arg21 arg22 arg23 f3 f4 f7 f8 0 (by omega) g19 g20 (zeroed i arg21 k0_pay24 f21) (zeroed i arg22 k0_pay25 f22) (zeroed i arg23 k0_pay26 f23)).d
        (ptSt i arg3 arg4 arg7 arg8 arg14 arg19 arg20 arg21 arg22 arg23 f3 f4 f7 f8 1 (by omega) g19 g20 (zeroed i arg21 k0_pay24 f21) (zeroed i arg22 k0_pay25 f22) (zeroed i arg23 k0_pay26 f23)).d))⟩]
  h13 : k0_cond3 i = 1#1 → g13 = arg13.view.writes (Elt F) f13 [⟨Rect.unit ![0, 0, 0] S1x1x512.size inb_S1x1x512_S1x1x512_0_0_0, k0_pay12 (whole8 arg23
      (two (ptSt i arg3 arg4 arg7 arg8 arg14 arg19 arg20 arg21 arg22 arg23 f3 f4 f7 f8 0 (by omega) g19 g20 (zeroed i arg21 k0_pay24 f21) (zeroed i arg22 k0_pay25 f22) (zeroed i arg23 k0_pay26 f23)).b
        (ptSt i arg3 arg4 arg7 arg8 arg14 arg19 arg20 arg21 arg22 arg23 f3 f4 f7 f8 1 (by omega) g19 g20 (zeroed i arg21 k0_pay24 f21) (zeroed i arg22 k0_pay25 f22) (zeroed i arg23 k0_pay26 f23)).b))⟩]

end Cert.Proof.KernelIdeal

end
-- ==== Proof.Ideal.PointX.lean ====
/-
  One grid point of the kernel, for the gradient of `x`: what the buffers of the transposed `y`, of the running product and of the result hold
  after the point, which the run proves.
-/
module

public import proofs.«01_k».proof.Proof.Ideal.Point

@[expose] public section

set_option maxRecDepth 16384

noncomputable section

namespace Cert.Proof.KernelIdeal

open Cert.KernelIdeal Cert.KernelIdeal.Gen
open Idealize.ShloMosaic

variable {F : FTy → Type} [FloatOps F] [Named F]

/-- Slab `s` of chunk `c` of the buffer of the factors. -/
theorem hs_inb (c s : ℕ) (hc : c < 2) (hs : s < 32) : ∀ a : Fin 2, (![32 * s, 256 * c] : Fin 2 → ℕ) a + S32x256.size a ≤ S1024x512.size a := by
  intro a; fin_cases a <;> simp <;> omega

/-- Chunk `c` of it. -/
theorem hc_inb (c : ℕ) (hc : c < 2) : ∀ a : Fin 2, (![0, 256 * c] : Fin 2 → ℕ) a + S1024x256.size a ≤ S1024x512.size a := by
  intro a; fin_cases a <;> simp <;> omega

/-- Chunk `c` of the running product. -/
theorem gx_inb (c : ℕ) (hc : c < 2) : ∀ a : Fin 2, (![0, 256 * c] : Fin 2 → ℕ) a + S768x256.size a ≤ S768x512.size a := by
  intro a; fin_cases a <;> simp <;> omega

/-- Chunk `c` of the scales of `x`. -/
theorem xs_inb (c : ℕ) (hc : c < 2) : ∀ a : Fin 3, (![0, 0, 256 * c] : Fin 3 → ℕ) a + S1x1x256.size a ≤ S1x1x512.size a := by
  intro a; fin_cases a <;> simp <;> omega

/-- The stores of the slabs of chunk `c`, the last first, after those of `L`. -/
def hPieces (I : In F) (c : ℕ) (hc : c < 2) (L : List (View.Piece (Elt F) S1024x512 .bf16)) : (n : ℕ) → n ≤ 32 → List (View.Piece (Elt F) S1024x512 .bf16)
  | 0, _ => L
  | n + 1, h => ⟨Rect.unit ![32 * n, 256 * c] S32x256.size (hs_inb c n hc h), I.out n h⟩ :: hPieces I c hc L n (Nat.le_of_succ_le h)

variable (i : grid0.Coords) (arg3 : Memref sig .tc .smem S1 .f32) (arg4 : Memref sig .tc .smem S1 .f32) (arg5 : Memref sig .tc .vmem S1x1x512 .f32) (arg7 : Memref sig .tc .vmem S1x512x768 .fp8e4m3) (arg8 : Memref sig .tc .vmem S1x1024x768 .fp8e4m3) (arg10 : Memref sig .tc .vmem S1x512x768 .bf16) (arg14 : Memref sig .tc .vmem S2x1024x256 .f32) (arg15 : Memref sig .tc .vmem S1024x512 .bf16) (arg16 : Memref sig .tc .vmem S768x512 .f32) (arg18 : Memref sig .tc .vmem S768x8192 .bf16) (arg19 : Memref sig .tc .vmem S8192x128 .f32) (arg20 : Memref sig .tc .vmem S8x512 .f32)
  (f3 : BufTy.Contents (Elt F) arg3.view.ty) (f4 : BufTy.Contents (Elt F) arg4.view.ty) (f5 : BufTy.Contents (Elt F) arg5.view.ty) (f7 : BufTy.Contents (Elt F) arg7.view.ty) (f8 : BufTy.Contents (Elt F) arg8.view.ty)

/-- The stores of the factors when chunk `c` is multiplied. -/
def hL (c : ℕ) (g19 : BufTy.Contents (Elt F) arg19.view.ty) (g20 : BufTy.Contents (Elt F) arg20.view.ty) : List (View.Piece (Elt F) S1024x512 .bf16) :=
  match c with
  | 0 => hPieces (ptIn i arg3 arg4 arg7 arg8 arg14 arg19 arg20 f3 f4 f7 f8 0 (by omega) g19 g20) 0 (by omega) [] 32 (Nat.le_refl 32)
  | _ => hPieces (ptIn i arg3 arg4 arg7 arg8 arg14 arg19 arg20 f3 f4 f7 f8 1 (by omega) g19 g20) 1 (by omega)
      (hPieces (ptIn i arg3 arg4 arg7 arg8 arg14 arg19 arg20 f3 f4 f7 f8 0 (by omega) g19 g20) 0 (by omega) [] 32 (Nat.le_refl 32)) 32 (Nat.le_refl 32)

/-- Chunk `c` of the factors, read back. -/
def hChunk (c : ℕ) (hc : c < 2) (g19 : BufTy.Contents (Elt F) arg19.view.ty) (g20 : BufTy.Contents (Elt F) arg20.view.ty) : Vec F S1024x256 .bf16 :=
  arg15.view.readCov (hL i arg3 arg4 arg7 arg8 arg14 arg19 arg20 f3 f4 f7 f8 c g19 g20) (Rect.unit (s := S1024x512) ![0, 256 * c] S1024x256.size (hc_inb c hc)).toLoadRect

/-- The running product before the point's products: zero at the first point of a row of blocks, else as it was. -/
def zeroed16 (f16 : BufTy.Contents (Elt F) arg16.view.ty) : BufTy.Contents (Elt F) arg16.view.ty :=
  if J0 i then arg16.view.writes (Elt F) f16 [⟨Rect.unit ![0, 0] S768x512.size inb_S768x512_S768x512_0_0, k0_pay23⟩] else f16

/-- Chunk `c` of the running product after the point. -/
def gxChunk (c : ℕ) (hc : c < 2) (z16 : BufTy.Contents (Elt F) arg16.view.ty) (g18 : BufTy.Contents (Elt F) arg18.view.ty)
    (g19 : BufTy.Contents (Elt F) arg19.view.ty) (g20 : BufTy.Contents (Elt F) arg20.view.ty) : FVec F S768x256 .f32 :=
  k0_pay568 (View.readAt (Elt F) arg16.view (Rect.unit (s := S768x512) ![0, 256 * c] S768x256.size (gx_inb c hc)).toLoadRect z16)
    (View.readAt (Elt F) arg18.view (Rect.unit (s := S768x8192) (k0_off6 i) S768x1024.size (k0_off6_inb i)).toLoadRect g18)
    (hChunk i arg3 arg4 arg7 arg8 arg14 arg15 arg19 arg20 f3 f4 f7 f8 c hc g19 g20)

/-- The stores of the two chunks of the running product. -/
def gxTwo (a b : FVec F S768x256 .f32) : List (View.Piece (Elt F) S768x512 .f32) :=
  [⟨Rect.unit ![0, 256] S768x256.size (gx_inb 1 (by omega)), b⟩, ⟨Rect.unit ![0, 0] S768x256.size (gx_inb 0 (by omega)), a⟩]

/-- Chunk `c` of the gradient of `x`, `a` being the running product. -/
def dxChunk (c : ℕ) (hc : c < 2) (a : FVec F S768x256 .f32) (g20 : BufTy.Contents (Elt F) arg20.view.ty) : FVec F S1x256x768 .bf16 :=
  k0_pay15 (k0_pay13 a) (k0_pay14 (xRows arg7 f7 c hc))
    (View.readAt (Elt F) arg20.view (Rect.unit (s := S8x512) ![0, 256 * c] S1x256.size (al_inb c hc)).toLoadRect g20)
    (View.readAt (Elt F) arg5.view (Rect.unit (s := S1x1x512) ![0, 0, 256 * c] S1x1x256.size (xs_inb c hc)).toLoadRect f5)

/-- Chunk `c` of the running product, read back after the two stores. -/
def gxRead (c : ℕ) (hc : c < 2) (a b : FVec F S768x256 .f32) : FVec F S768x256 .f32 :=
  arg16.view.readCov (gxTwo a b) (Rect.unit (s := S768x512) ![0, 256 * c] S768x256.size (gx_inb c hc)).toLoadRect

/-- What the buffers of the gradient of `x` hold after the point. -/
structure GxFacts (f10 g10 : BufTy.Contents (Elt F) arg10.view.ty) (f16 g16 : BufTy.Contents (Elt F) arg16.view.ty) (f18 g18 : BufTy.Contents (Elt F) arg18.view.ty)
    (g19 : BufTy.Contents (Elt F) arg19.view.ty) (g20 : BufTy.Contents (Elt F) arg20.view.ty) : Prop where
  /-- The rows of `y` are transposed on the first row of blocks. -/
  h18 : ∀ h : k0_cond1 i = 1#1, g18 = arg18.view.writes (Elt F) f18 (View.tilePieces (NT := k0_t1_loop.trips) S768x256.size (fun k => k0_off3 i k) (fun k => k0_off3_inb i k h)
      (fun k => k0_pay6 (View.readAt (Elt F) arg8.view (Rect.unit (s := S1x1024x768) (k0_off1 k) S1x256x768.size (k0_off1_inb i k h)).toLoadRect f8)) k0_t1_loop.trips (Nat.le_refl _))
  h18' : ¬ k0_cond1 i = 1#1 → g18 = f18
  h16 : g16 = arg16.view.writes (Elt F) (zeroed16 i arg16 f16)
    (gxTwo (gxChunk i arg3 arg4 arg7 arg8 arg14 arg15 arg16 arg18 arg19 arg20 f3 f4 f7 f8 0 (by omega) (zeroed16 i arg16 f16) g18 g19 g20)
      (gxChunk i arg3 arg4 arg7 arg8 arg14 arg15 arg16 arg18 arg19 arg20 f3 f4 f7 f8 1 (by omega) (zeroed16 i arg16 f16) g18 g19 g20))
  /-- The gradient is stored at the last point of a row of blocks. -/
  h10 : k0_cond3 i = 1#1 → g10 = arg10.view.writes (Elt F) f10
    [⟨Rect.unit ![0, 256, 0] S1x256x768.size (x_inb 1 (by omega)), dxChunk arg5 arg7 arg20 f5 f7 1 (by omega)
        (gxRead arg16 1 (by omega) (gxChunk i arg3 arg4 arg7 arg8 arg14 arg15 arg16 arg18 arg19 arg20 f3 f4 f7 f8 0 (by omega) (zeroed16 i arg16 f16) g18 g19 g20)
          (gxChunk i arg3 arg4 arg7 arg8 arg14 arg15 arg16 arg18 arg19 arg20 f3 f4 f7 f8 1 (by omega) (zeroed16 i arg16 f16) g18 g19 g20)) g20⟩,
      ⟨Rect.unit ![0, 0, 0] S1x256x768.size (x_inb 0 (by omega)), dxChunk arg5 arg7 arg20 f5 f7 0 (by omega)
        (gxRead arg16 0 (by omega) (gxChunk i arg3 arg4 arg7 arg8 arg14 arg15 arg16 arg18 arg19 arg20 f3 f4 f7 f8 0 (by omega) (zeroed16 i arg16 f16) g18 g19 g20)
          (gxChunk i arg3 arg4 arg7 arg8 arg14 arg15 arg16 arg18 arg19 arg20 f3 f4 f7 f8 1 (by omega) (zeroed16 i arg16 f16) g18 g19 g20)) g20⟩]

end Cert.Proof.KernelIdeal

end
-- ==== Proof.Ideal.Run.lean ====
/-
  One grid point of the kernel, run symbolically from any contents of its buffers: the inputs are left as they were, and every buffer it
  stores into is handed back at some contents, of which `RowFacts` says what the row results need.
-/
module

public import proofs.«01_k».proof.Proof.Gen.KernelIdeal.Frame
public import proofs.«01_k».proof.Proof.Ideal.PointX

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer held whole at contents `f`. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

set_option maxHeartbeats 4000000 in
/-- The body runs from any contents of its buffers and leaves its inputs as they were. -/
theorem kernelRun (c : Dev nD) (i : grid0.Coords) (arg3 : Memref sig .tc .smem S1 .f32) (harg3 : arg3.IsWhole) (arg4 : Memref sig .tc .smem S1 .f32) (harg4 : arg4.IsWhole) (arg5 : Memref sig .tc .vmem S1x1x512 .f32) (harg5 : arg5.IsWhole) (arg6 : Memref sig .tc .vmem S1x1x1024 .f32) (harg6 : arg6.IsWhole) (arg7 : Memref sig .tc .vmem S1x512x768 .fp8e4m3) (harg7 : arg7.IsWhole) (arg8 : Memref sig .tc .vmem S1x1024x768 .fp8e4m3) (harg8 : arg8.IsWhole) (arg9 : Memref sig .tc .vmem S1x1x512 .f32) (harg9 : arg9.IsWhole) (arg10 : Memref sig .tc .vmem S1x512x768 .bf16) (harg10 : arg10.IsWhole) (arg11 : Memref sig .tc .vmem S1x1024x768 .bf16) (harg11 : arg11.IsWhole) (arg12 : Memref sig .tc .vmem S1x1x512 .f32) (harg12 : arg12.IsWhole) (arg13 : Memref sig .tc .vmem S1x1x512 .f32) (harg13 : arg13.IsWhole) (arg14 : Memref sig .tc .vmem S2x1024x256 .f32) (harg14 : arg14.IsWhole) (arg15 : Memref sig .tc .vmem S1024x512 .bf16) (harg15 : arg15.IsWhole) (arg16 : Memref sig .tc .vmem S768x512 .f32) (harg16 : arg16.IsWhole) (arg17 : Memref sig .tc .vmem S8192x768 .f32) (harg17 : arg17.IsWhole) (arg18 : Memref sig .tc .vmem S768x8192 .bf16) (harg18 : arg18.IsWhole) (arg19 : Memref sig .tc .vmem S8192x128 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x512 .f32) (harg23 : arg23.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (E : Set ℕ) (K : PUnit → sProp 𝕄) :
    iprop(held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21 ∗ held c arg22 f22 ∗ held c arg23 f23
        ∗ (iprop(held c arg3 f3 ∗ held c arg4 f4 ∗ held c arg5 f5 ∗ held c arg6 f6 ∗ held c arg7 f7 ∗ held c arg8 f8 ∗ (∃ g9 g10 g11 g12 g13 g14 g15 g16 g17 g18 g19 g20 g21 g22 g23, held c arg9 g9 ∗ held c arg10 g10 ∗ held c arg11 g11 ∗ held c arg12 g12 ∗ held c arg13 g13 ∗ held c arg14 g14 ∗ held c arg15 g15 ∗ held c arg16 g16 ∗ held c arg17 g17 ∗ held c arg18 g18 ∗ held c arg19 g19 ∗ held c arg20 g20 ∗ held c arg21 g21 ∗ held c arg22 g22 ∗ held c arg23 g23 ∗ ⌜RowFacts i arg3 arg4 arg7 arg8 arg9 arg12 arg13 arg14 arg19 arg20 arg21 arg22 arg23 f3 f4 f7 f8 f9 g9 f12 g12 f13 g13 f19 g19 f20 g20 f21 g21 f22 g22 f23 g23 ∧ GxFacts i arg3 arg4 arg5 arg7 arg8 arg10 arg14 arg15 arg16 arg18 arg19 arg20 f3 f4 f5 f7 f8 f10 g10 f16 g16 f18 g18 g19 g20⌝)) -∗ K ⟨⟩))
      ⊢ wp frame (wpE (defs₀ (F := F)) Variants.none c none) E (cc0_siglip_fused i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases h1 : k0_cond1 i = 1#1
  all_goals
    unfold held
    iintro ⟨H3, H4, H5, H6, H7, H8, H9, H10, H11, H12, H13, H14, H15, H16, H17, H18, H19, H20, H21, H22, H23, Hk⟩
    sl_unfold [cc0_siglip_fused]
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    iexists _, _, _, _, _, _, _, _, _, _, _, _, _, _, _
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    ipureintro
    refine ⟨?_, ?_⟩
    exact
      { h19 := by first | exact fun h => absurd h h1 | (intro _; sl_kernel_rfl)
        h19' := by first | exact fun h => absurd h1 h | exact fun _ => rfl
        h20 := by sl_kernel_rfl
        h21 := by sl_kernel_rfl
        h22 := by sl_kernel_rfl
        h23 := by sl_kernel_rfl
        h9 := fun h => (dif_pos h).trans (by sl_kernel_rfl)
        h12 := fun h => (dif_pos h).trans (by sl_kernel_rfl)
        h13 := fun h => (dif_pos h).trans (by sl_kernel_rfl) }
    exact
      { h18 := by first | exact fun h => absurd h h1 | (intro _; sl_kernel_rfl)
        h18' := by first | exact fun h => absurd h1 h | exact fun _ => rfl
        h16 := by sl_kernel_rfl
        h10 := fun h => (dif_pos h).trans (by sl_kernel_rfl) }

end Cert.Proof.KernelIdeal

end
-- ==== Proof.Ideal.Frame.lean ====
/-
  The kernel terminates, faults nowhere and leaves its arguments unchanged: the body of each grid point runs from any contents of
  its scratch and of its results' staging buffers (`kernelRun`), so the pipeline runs with those forgotten.
-/
module

public import proofs.«01_k».proof.Proof.Ideal.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The results' windows are forgotten. -/
def fgt : Fin 11 → Bool := fun w => decide (6 ≤ w.val)

/-- The pipeline's data on core `c`: an input's buffer is left at its block; a result's is not named; the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ _ := Pipeline.ΦA spec0 c
  q _ := fullShare
  owed _ := 0

/-- A whole scratch buffer held is its points-to. -/
theorem held_whole (c : Dev nD) (b : Ref sig .tc) (f : Buf (Elt F) ((c : Thread nD τ).loc b)) :
    (held (F := F) c (Memref.whole b) f : sProp 𝕄) = ((c : Thread nD τ).loc b ↦{fullShare} f) := by
  unfold held; simp only [Memref.view_whole, View.set_whole]

/-- What the body at point `t` is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- What the body at point `t` returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

set_option maxHeartbeats 4000000 in
/-- The body at a point: the buffers handed to `kernelRun`, and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA owns
  rw [scopedRest0_eq]
  simp only [← held_whole]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hg⟩, Ho, ⟨%d0, %x0, %hx0, H0⟩, ⟨%d1, %x1, %hx1, H1⟩, ⟨%d2, %x2, %hx2, H2⟩, ⟨%d3, %x3, %hx3, H3⟩, ⟨%d4, %x4, %hx4, H4⟩, ⟨%d5, %x5, %hx5, H5⟩, ⟨%d6, %x6, %hx6, H6⟩, ⟨%d7, %x7, %hx7, H7⟩, ⟨%d8, %x8, %hx8, H8⟩, ⟨%d9, %x9, %hx9, H9⟩, ⟨%d10, %x10, %hx10, H10⟩⟩
  iapply (kernelRun c (grid0.coords t) _ _ _ _ _ _ _ _ _ _ _ _ _ _ _ _ _ _ _ _ _ _ _ _ _ _ _ _ _ _ _ _ _ _ _ _ _ _ _ _ _ _ x0 x1 x2 x3 x4 x5 x6 x7 x8 x9 x10 s0 s1 s2 s3 s4 s5 s6 s7 s8 s9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, ⟨%g6, %g7, %g8, %g9, %g10, %r0, %r1, %r2, %r3, %r4, %r5, %r6, %r7, %r8, %r9, H6, H7, H8, H9, H10, S0, S1, S2, S3, S4, S5, S6, S7, S8, S9, -⟩⟩
  isplitl [S0 S1 S2 S3 S4 S5 S6 S7 S8 S9 Hg]
  · isplitl [S0 S1 S2 S3 S4 S5 S6 S7 S8 S9]
    · isplitl [S0]; · iexists r0; iexact S0
      isplitl [S1]; · iexists r1; iexact S1
      isplitl [S2]; · iexists r2; iexact S2
      isplitl [S3]; · iexists r3; iexact S3
      isplitl [S4]; · iexists r4; iexact S4
      isplitl [S5]; · iexists r5; iexact S5
      isplitl [S6]; · iexists r6; iexact S6
      isplitl [S7]; · iexists r7; iexact S7
      isplitl [S8]; · iexists r8; iexact S8
      iexists r9; iexact S9
    iexact Hg
  isplitl [Ho]; · iexact Ho
  isplitl [H0]; · iexists x0; isplitr; · (ipureintro; exact hx0)
                  iexact H0
  isplitl [H1]; · iexists x1; isplitr; · (ipureintro; exact hx1)
                  iexact H1
  isplitl [H2]; · iexists x2; isplitr; · (ipureintro; exact hx2)
                  iexact H2
  isplitl [H3]; · iexists x3; isplitr; · (ipureintro; exact hx3)
                  iexact H3
  isplitl [H4]; · iexists x4; isplitr; · (ipureintro; exact hx4)
                  iexact H4
  isplitl [H5]; · iexists x5; isplitr; · (ipureintro; exact hx5)
                  iexact H5
  isplitl [H6]; · iexists _, g6; isplitr; swap; · iexact H6
                  ipureintro; rfl
  isplitl [H7]; · iexists _, g7; isplitr; swap; · iexact H7
                  ipureintro; rfl
  isplitl [H8]; · iexists _, g8; isplitr; swap; · iexact H8
                  ipureintro; rfl
  isplitl [H9]; · iexists _, g9; isplitr; swap; · iexact H9
                  ipureintro; rfl
  iexists _, g10; isplitr; swap; · iexact H10
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

-- the run theorem's implicit arguments are found by unifying its conclusion with this one
set_option backward.isDefEq.respectTransparency.types false in
/-- Every weakly fair execution terminates, with the staged inputs' arrays and the rest of memory as they were and every
    semaphore counter at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame claim's statement at any float semantics. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1.arr_in c 4 rfl).trans (V_main_arg0 m c),
      ((h.1 c).2 main_arg1 (Pipeline.mem_restRefs_of main_arg1 (by decide) (by decide))).trans (V_main_arg1 m c),
      (h.1.arr_in c 5 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Proof.KernelIdeal

end
-- ==== Proof.Ideal.SlabValue.lean ====
/-
  What the slabs of a column chunk compute, over the extended reals and at one element: the running product of the `1 + e` becomes a sum of
  logarithms, and the three partial sums become sums over the rows.
-/
module

public import proofs.«01_k».proof.Proof.Ideal.Slab
public import Idealize.ShloMosaic.Lib.Pointwise

@[expose] public section

set_option maxRecDepth 16384

noncomputable section

namespace Cert.Proof.KernelIdeal

open Cert.KernelIdeal Cert.KernelIdeal.Gen
open Idealize.ShloMosaic

/-- `2^(-|l|)`. -/
def eV (l : EReal) : EReal := Ideal.exp2 (0 - max l (-l))

/-- It is a real number, above zero or equal to it. -/
theorem eV_real (l : EReal) : ∃ x : ℝ, 0 ≤ x ∧ eV l = (x : EReal) := by
  induction l with
  | bot => exact ⟨0, le_rfl, by simp [eV]⟩
  | top => exact ⟨0, le_rfl, by simp [eV]⟩
  | coe r =>
    refine ⟨Real.rpow 2 (0 - max r (-r)), Real.rpow_nonneg (by norm_num) _, ?_⟩
    unfold eV
    have hm : max (r : EReal) ((-r : ℝ) : EReal) = ((max r (-r) : ℝ) : EReal) := (EReal.coe_strictMono.monotone.map_max (a := r) (b := -r)).symm
    rw [← EReal.coe_neg, hm, ← EReal.coe_zero, ← EReal.coe_sub, Ideal.exp2_coe]

/-- The same as a real number. -/
def eR (l : EReal) : ℝ := (eV l).toReal

theorem eR_nonneg (l : EReal) : 0 ≤ eR l := by
  obtain ⟨x, hx, h⟩ := eV_real l
  rw [eR, h]; exact hx

theorem eV_eq (l : EReal) : eV l = (eR l : EReal) := by
  obtain ⟨x, hx, h⟩ := eV_real l
  rw [eR, h]; rfl

/-- The sigmoid of a logit in base two. -/
def sV (l : EReal) : EReal := if 0 ≤ l then Ideal.div 1 (1 + eV l) else eV l * Ideal.div 1 (1 + eV l)

theorem beqF {a b : ℕ} (h : a ≠ b) : Nat.beq a b = false := by
  cases hb : Nat.beq a b
  · rfl
  · exact absurd (Nat.eq_of_beq_eq_true hb) h

/-- A finite sum of real numbers. -/
theorem coe_sum {ι : Type} (S : Finset ι) (f : ι → ℝ) : ((∑ i ∈ S, f i : ℝ) : EReal) = ∑ i ∈ S, (f i : EReal) := by
  classical
  induction S using Finset.induction_on with
  | empty => rfl
  | insert a S ha ih => rw [Finset.sum_insert ha, Finset.sum_insert ha, EReal.coe_add, ih]

variable (I : In Ideal)

/-- A logit. -/
abbrev In.L (s : ℕ) (h : s < 32) (r : Fin 32) (c : Fin 256) : EReal := I.lg s h (ix2 r c)

theorem slabE_at (l : FVec Ideal S32x256 .f32) (r : Fin 32) (c : Fin 256) : slabE l (ix2 r c) = eV (l (ix2 r c)) := by
  pointwise [slabE, eV]
  rfl

theorem slabP_at (l : FVec Ideal S32x256 .f32) (r : Fin 32) (c : Fin 256) : slabP l (ix2 r c) = 1 + eV (l (ix2 r c)) := by
  pointwise [slabP, slabE, eV]
  rfl

theorem slabR_at (l : FVec Ideal S32x256 .f32) (r : Fin 32) (c : Fin 256) : slabR l (ix2 r c) = sV (l (ix2 r c)) := by
  pointwise [slabR, slabP, slabE, eV, sV]
  rfl

theorem fold8_at (v : FVec Ideal S32x256 .f32) (k : Fin 8) (c : Fin 256) :
    fold8 v (ix2 k c) = ∑ m : Fin 4, v (ix2 (⟨8 * m.val + k.val, by omega⟩ : Fin 32) c) := by
  rw [Fin.sum_univ_four]
  pointwise [fold8, rows8]
  simp only [add_assoc]

/-- `log (1 + e)` over the four rows of a slab that meet in row `k`. -/
def In.lr (k : Fin 8) (c : Fin 256) (s : ℕ) : ℝ :=
  if h : s < 32 then ∑ m : Fin 4, Real.log (1 + eR (I.L s h (⟨8 * m.val + k.val, by omega⟩ : Fin 32) c)) else 0

/-- A sum over those four rows. -/
def In.four (f : (s : ℕ) → s < 32 → Fin 32 → Fin 256 → EReal) (k : Fin 8) (c : Fin 256) (s : ℕ) : EReal :=
  if h : s < 32 then ∑ m : Fin 4, f s h (⟨8 * m.val + k.val, by omega⟩ : Fin 32) c else 0

/-- The factor of the running product that a slab brings. -/
theorem slabW_at (l : FVec Ideal S32x256 .f32) (p : FVec Ideal S8x256 .f32) (k : Fin 8) (c : Fin 256) (P : ℝ) (hp : p (ix2 k c) = (P : EReal)) :
    slabW p l (ix2 k c)
      = (((∏ m : Fin 4, (1 + eR (l (ix2 (⟨8 * m.val + k.val, by omega⟩ : Fin 32) c)))) - 1) * P : ℝ) := by
  have h : slabW p l (ix2 k c)
      = ((eR (l (ix2 (⟨k.val, by omega⟩ : Fin 32) c)) : EReal) + eR (l (ix2 (⟨8 + k.val, by omega⟩ : Fin 32) c)) * (1 + eR (l (ix2 (⟨k.val, by omega⟩ : Fin 32) c)))
        + ((eR (l (ix2 (⟨16 + k.val, by omega⟩ : Fin 32) c)) : EReal) + eR (l (ix2 (⟨24 + k.val, by omega⟩ : Fin 32) c)) * (1 + eR (l (ix2 (⟨16 + k.val, by omega⟩ : Fin 32) c))))
          * (1 + (eR (l (ix2 (⟨k.val, by omega⟩ : Fin 32) c)) + eR (l (ix2 (⟨8 + k.val, by omega⟩ : Fin 32) c)) * (1 + eR (l (ix2 (⟨k.val, by omega⟩ : Fin 32) c)))))) * P := by
    simp only [← eV_eq, ← hp]
    pointwise [slabW, rows8]
    simp only [slabE_at, slabP_at]
  have e1 : (1 : EReal) = ((1 : ℝ) : EReal) := rfl
  rw [h, Fin.prod_univ_four]
  simp only [e1, ← EReal.coe_add, ← EReal.coe_mul]
  refine congrArg _ ?_
  simp only [Fin.val_zero, Fin.val_one, Fin.val_two, show ((3 : Fin 4) : ℕ) = 3 from rfl, Nat.mul_zero, Nat.zero_add, Nat.mul_one, Nat.reduceMul]
  ring

/-- `1 / log 2`. -/
def kL : ℝ := (Real.log 2)⁻¹

/-- The named constant is `1 / log 2`. -/
theorem log2e : (Named.named κ "log2_e" 0x3FB8AA3B#32 : Ideal .f32) = ((kL : ℝ) : EReal) := by
  rw [IdealRules.named_const.ideal_named_scalar _ _ _ _ rfl]
  show ((_ : ℝ) : EReal) = _
  norm_num [kL]

/-- The logarithm that a group adds to the loss. -/
theorem logQ_at (q : FVec Ideal S8x256 .f32) (k : Fin 8) (c : Fin 256) (P : ℝ) (hP : 1 ≤ P) (hq : q (ix2 k c) = ((P - 1 : ℝ) : EReal)) :
    logQ q (ix2 k c) = ((Real.log P * kL : ℝ) : EReal) := by
  pointwise [logQ]
  rw [hq, log2e]
  have e1 : (1 : EReal) = ((1 : ℝ) : EReal) := rfl
  have e2 : (1 : EReal) + ((P - 1 : ℝ) : EReal) = ((P : ℝ) : EReal) := by rw [e1, ← EReal.coe_add]; congr 1; ring
  have e3 : ((P : ℝ) : EReal) - 1 = ((P - 1 : ℝ) : EReal) := by rw [e1, ← EReal.coe_sub]
  rw [e2, e3]
  by_cases h : P = 1
  · subst h; simp
  · have h0 : P - 1 ≠ 0 := sub_ne_zero.mpr h
    have h1 : ((P - 1 : ℝ) : EReal) ≠ 0 := EReal.coe_ne_zero.mpr h0
    rw [if_neg h1, if_neg h1, Ideal.div_coe h0, Ideal.log_coe, if_neg (by linarith), ← EReal.coe_mul, ← EReal.coe_mul, ← EReal.coe_mul]
    congr 1
    field_simp

/-- What a pair adds to the loss, in base two. -/
def lossV (l : EReal) : EReal := max l 0 + ((Real.log (1 + eR l) * kL : ℝ) : EReal)

/-- The running product within a group of 16 slabs: `p`, `q` and the logarithm of the product. -/
def In.Grp (a : St Ideal) (k : Fin 8) (c : Fin 256) (t : ℝ) : Prop :=
  ∃ P : ℝ, 1 ≤ P ∧ a.p (ix2 k c) = (P : EReal) ∧ a.q (ix2 k c) = ((P - 1 : ℝ) : EReal) ∧ Real.log P = t

/-- One more slab in the running product. -/
theorem In.grp_step (l : FVec Ideal S32x256 .f32) (p q : FVec Ideal S8x256 .f32) (k : Fin 8) (c : Fin 256) (P : ℝ) (hP : 1 ≤ P)
    (hp : p (ix2 k c) = (P : EReal)) (hq : q (ix2 k c) = ((P - 1 : ℝ) : EReal)) :
    ∃ P' : ℝ, 1 ≤ P' ∧ addf p (slabW p l) (ix2 k c) = (P' : EReal) ∧ addf q (slabW p l) (ix2 k c) = ((P' - 1 : ℝ) : EReal)
      ∧ Real.log P' = Real.log P + ∑ m : Fin 4, Real.log (1 + eR (l (ix2 (⟨8 * m.val + k.val, by omega⟩ : Fin 32) c))) := by
  have hW := slabW_at l p k c P hp
  set R : ℝ := ∏ m : Fin 4, (1 + eR (l (ix2 (⟨8 * m.val + k.val, by omega⟩ : Fin 32) c))) with hR
  have hR1 : 1 ≤ R := by
    rw [hR]
    refine Finset.prod_induction _ (fun x : ℝ => 1 ≤ x) (fun _ _ ha hb => one_le_mul_of_one_le_of_one_le ha hb) le_rfl fun m _ => ?_
    have := eR_nonneg (l (ix2 (⟨8 * m.val + k.val, by omega⟩ : Fin 32) c))
    linarith
  refine ⟨P * R, by nlinarith, ?_, ?_, ?_⟩
  · rw [addf_apply, hW, hp]
    show ((P : ℝ) : EReal) + _ = _
    rw [← EReal.coe_add]; congr 1; ring
  · rw [addf_apply, hW, hq]
    show ((P - 1 : ℝ) : EReal) + _ = _
    rw [← EReal.coe_add]; congr 1; ring
  · rw [Real.log_mul (by linarith) (by linarith), hR, Real.log_prod]
    intro m _
    have := eR_nonneg (l (ix2 (⟨8 * m.val + k.val, by omega⟩ : Fin 32) c))
    linarith

/-- A chunk's slabs, at one element of the eight rows: the partial sums of `d` and `b`. -/
theorem In.st_db (a : St Ideal) (k : Fin 8) (c : Fin 256) : (n : ℕ) → (hn : n ≤ 32) →
    (I.st a n hn).d (ix2 k c) = a.d (ix2 k c) + ∑ s ∈ Finset.range n, In.four (fun s h r c => I.sg s h (ix2 r c) * I.z s h (ix2 r c)) k c s
      ∧ (I.st a n hn).b (ix2 k c) = a.b (ix2 k c) + ∑ s ∈ Finset.range n, In.four (fun s h r c => I.sg s h (ix2 r c)) k c s
  | 0, _ => by simp [In.st]
  | n + 1, hn => by
    obtain ⟨h1, h2⟩ := In.st_db a k c n (Nat.le_of_succ_le hn)
    rw [Finset.sum_range_succ, Finset.sum_range_succ, ← add_assoc, ← add_assoc, ← h1, ← h2]
    simp only [In.four, dif_pos (Nat.lt_of_succ_le hn)]
    constructor
    · show addf _ (fold8 _) (ix2 k c) = _
      rw [addf_apply, fold8_at]; rfl
    · show addf _ (fold8 _) (ix2 k c) = _
      rw [addf_apply, fold8_at]; rfl

/-- The same of the loss, with the running product. -/
theorem In.st_l (a : St Ideal) (k : Fin 8) (c : Fin 256) : (n : ℕ) → (hn : n ≤ 32) →
    (I.st a n hn).l (ix2 k c) = a.l (ix2 k c) + (∑ s ∈ Finset.range n, In.four (fun s h r c => max (I.L s h r c) 0) k c s
        + ((((∑ s ∈ Finset.range (16 * (n / 16)), I.lr k c s) * kL : ℝ)) : EReal))
      ∧ (n % 16 ≠ 0 → In.Grp (I.st a n hn) k c (∑ s ∈ Finset.Ico (16 * (n / 16)) n, I.lr k c s))
  | 0, _ => by simp [In.st]
  | n + 1, hn => by
    have hn' : n < 32 := Nat.lt_of_succ_le hn
    obtain ⟨h1, h2⟩ := In.st_l a k c n (Nat.le_of_succ_le hn)
    -- the running product after slab `n`
    obtain ⟨p, q, P, hP, hp, hq, hlog, ep, eq⟩ : ∃ (p q : FVec Ideal S8x256 .f32) (P : ℝ), 1 ≤ P ∧ p (ix2 k c) = (P : EReal) ∧ q (ix2 k c) = ((P - 1 : ℝ) : EReal)
        ∧ Real.log P = ∑ s ∈ Finset.Ico (16 * (n / 16)) n, I.lr k c s
        ∧ (I.st a (n + 1) hn).p = addf p (slabW p (I.lg n hn')) ∧ (I.st a (n + 1) hn).q = addf q (slabW p (I.lg n hn')) := by
      by_cases h0 : n % 16 = 0
      · refine ⟨k8 0x3F800000#32, k8 0x00000000#32, 1, le_rfl, ?_, ?_, ?_, ?_, ?_⟩
        · pointwise [k8]; rfl
        · pointwise [k8]; simp
        · rw [show 16 * (n / 16) = n by omega]; simp
        · show cond (Nat.beq (n % 16) 0) _ _ = _
          rw [h0]; rfl
        · show cond (Nat.beq (n % 16) 0) _ _ = _
          rw [h0]; rfl
      · obtain ⟨P, hP, hp, hq, hl⟩ := h2 h0
        have hb : Nat.beq (n % 16) 0 = false := beqF h0
        refine ⟨_, _, P, hP, hp, hq, hl, ?_, ?_⟩
        · show cond (Nat.beq (n % 16) 0) _ _ = _
          rw [hb]; rfl
        · show cond (Nat.beq (n % 16) 0) _ _ = _
          rw [hb]; rfl
    obtain ⟨P', hP', hp', hq', hlog'⟩ := In.grp_step (I.lg n hn') p q k c P hP hp hq
    have hlr : I.lr k c n = ∑ m : Fin 4, Real.log (1 + eR (I.lg n hn' (ix2 (⟨8 * m.val + k.val, by omega⟩ : Fin 32) c))) := by
      simp only [In.lr, dif_pos hn']
    rw [hlog, ← hlr, ← Finset.sum_Ico_succ_top (by omega)] at hlog'
    have hl : (I.st a n (Nat.le_of_succ_le hn)).l (ix2 k c) + fold8 (maximumf (I.lg n hn') (kS 0x00000000#32)) (ix2 k c)
        = a.l (ix2 k c) + (∑ s ∈ Finset.range (n + 1), In.four (fun s h r c => max (I.L s h r c) 0) k c s
        + ((((∑ s ∈ Finset.range (16 * (n / 16)), I.lr k c s) * kL : ℝ)) : EReal)) := by
      rw [h1, Finset.sum_range_succ, fold8_at]
      have hf : (In.four (fun s h r c => max (I.L s h r c) 0) k c n) = ∑ m : Fin 4, maximumf (I.lg n hn') (kS 0x00000000#32) (ix2 (⟨8 * m.val + k.val, by omega⟩ : Fin 32) c) := by
        simp only [In.four, dif_pos hn']
        refine Finset.sum_congr rfl fun m _ => ?_
        pointwise [kS]
      rw [hf]
      ac_rfl
    by_cases h15 : n % 16 = 15
    · refine ⟨?_, fun h => absurd (by omega) h⟩
      have hlS : (I.st a (n + 1) hn).l = addf (addf (I.st a n (Nat.le_of_succ_le hn)).l (fold8 (maximumf (I.lg n hn') (kS 0x00000000#32)))) (logQ (I.st a (n + 1) hn).q) := by
        have hb : Nat.beq (n % 16) 0 = false := beqF (by omega)
        show cond (Nat.beq (n % 16) 15) _ _ = addf _ (logQ (cond (Nat.beq (n % 16) 0) _ _))
        rw [hb, h15]; rfl
      rw [hlS, addf_apply, addf_apply, logQ_at _ k c P' hP' (by rw [eq]; exact hq')]
      show (_ + _) + _ = _
      rw [hl, hlog', show 16 * ((n + 1) / 16) = n + 1 by omega]
      have := Finset.sum_range_add_sum_Ico (I.lr k c) (show 16 * (n / 16) ≤ n + 1 by omega)
      rw [← this, add_mul, EReal.coe_add]
      ac_rfl
    · have hd : (n + 1) / 16 = n / 16 := by omega
      constructor
      · have hlS : (I.st a (n + 1) hn).l = addf (I.st a n (Nat.le_of_succ_le hn)).l (fold8 (maximumf (I.lg n hn') (kS 0x00000000#32))) := by
          have hb : Nat.beq (n % 16) 15 = false := beqF h15
          show cond (Nat.beq (n % 16) 15) _ _ = _
          rw [hb]; rfl
        rw [hlS, addf_apply, hd]
        exact hl
      · intro _
        rw [hd]
        exact ⟨P', hP', by rw [ep]; exact hp', by rw [eq]; exact hq', hlog'⟩

/-- The loss of a chunk, at one element of the eight rows. -/
theorem In.st_loss (a : St Ideal) (k : Fin 8) (c : Fin 256) :
    (I.st a 32 (Nat.le_refl 32)).l (ix2 k c) = a.l (ix2 k c) + ∑ s ∈ Finset.range 32, In.four (fun s h r c => lossV (I.L s h r c)) k c s := by
  rw [(In.st_l I a k c 32 (Nat.le_refl 32)).1]
  congr 1
  have h : ∀ s ∈ Finset.range 32, In.four (fun s h r c => lossV (I.L s h r c)) k c s
      = In.four (fun s h r c => max (I.L s h r c) 0) k c s + ((I.lr k c s * kL : ℝ) : EReal) := by
    intro s hs
    have hs' := Finset.mem_range.mp hs
    simp only [In.four, In.lr, dif_pos hs', lossV, Finset.sum_add_distrib, Finset.sum_mul, coe_sum]
  rw [Finset.sum_congr rfl h, Finset.sum_add_distrib, ← coe_sum, ← Finset.sum_mul]

end Cert.Proof.KernelIdeal

end
-- ==== Proof.Ideal.PointValue.lean ====
/-
  One grid point's values over the extended reals, at one element: the norms, the scores, the logits with the sign of the pair, and what
  the point adds to the three row sums.
-/
module

public import proofs.«01_k».proof.Proof.Ideal.Point
public import proofs.«01_k».proof.Proof.Ideal.SlabValue
public import Idealize.ShloMosaic.Lib.VecWindow

@[expose] public section

set_option maxRecDepth 16384

noncomputable section

namespace Cert.Proof.KernelIdeal

open Cert.KernelIdeal Cert.KernelIdeal.Gen
open Idealize.ShloMosaic

/-- The inverse norm of a row of codes, one where it is zero. -/
def invN (v : Fin 768 → EReal) : EReal := if ∑ d, v d * v d = 0 then 1 else Ideal.rsqrt (∑ d, v d * v d)

theorem ofBits_8192 : Ideal.ofBits .f32 956301312#32 = (((8192 : ℝ)⁻¹ : ℝ) : EReal) := by
  simp [Ideal.ofBits, Ideal.ieee, -EReal.coe_mul]; norm_num

/-- The row factors of `y`. -/
theorem pay5_at (v : Vec Ideal S1x256x768 .fp8e4m3) (r : Fin 256) (l : Fin 128) : k0_pay5 v (ix2 r l) = invN (fun d => v (ix3 0 r d)) := by
  pointwise [k0_pay5, k0_pay4, invN]
  split_ifs <;> rfl

/-- The column factors of `x`. -/
theorem pay8_at (v : Vec Ideal S1x256x768 .fp8e4m3) (k : Fin 8) (c : Fin 256) : k0_pay8 v (ix2 k c) = invN (fun d => v (ix3 0 c d)) := by
  pointwise [k0_pay8, invN]
  split_ifs <;> rfl

/-- The raw scores. -/
theorem pay30_at (v : Vec Ideal S1x1024x768 .fp8e4m3) (w : Vec Ideal S1x256x768 .fp8e4m3) (r : Fin 1024) (c : Fin 256) :
    k0_pay30 v w (ix3 0 r c) = ∑ d : Fin 768, v (ix3 0 r d) * w (ix3 0 c d) := by
  pointwise [k0_pay30]

/-- The loss of a row of blocks. -/
theorem pay10_at (v : Vec Ideal S8x512 .f32) (c : Fin 512) : k0_pay10 v (ix3 0 0 c) = (∑ k : Fin 8, v (ix2 k c)) * ((Real.log 2 : ℝ) : EReal) := by
  have h : (Named.named κ "ln_2" 0x3F317218#32 : Ideal .f32) = ((Real.log 2 : ℝ) : EReal) := by
    rw [IdealRules.named_const.ideal_named_scalar _ _ _ _ rfl]
  pointwise [k0_pay10]
  rw [h]

/-- The temperature's gradient. -/
theorem pay11_at (v : Vec Ideal S8x512 .f32) (c : Fin 512) : k0_pay11 v (ix3 0 0 c) = (∑ k : Fin 8, v (ix2 k c)) * ((Real.log 2 * (8192 : ℝ)⁻¹ : ℝ) : EReal) := by
  have h : (Named.named κ "ln_2_over_seq" 0x38B17218#32 : Ideal .f32) = ((Real.log 2 * (8192 : ℝ)⁻¹ : ℝ) : EReal) := by
    rw [IdealRules.named_const.ideal_named_scalar _ _ _ _ rfl]
  pointwise [k0_pay11]
  rw [h]

/-- The bias's gradient. -/
theorem pay12_at (v : Vec Ideal S8x512 .f32) (c : Fin 512) : k0_pay12 v (ix3 0 0 c) = (∑ k : Fin 8, v (ix2 k c)) * (((8192 : ℝ)⁻¹ : ℝ) : EReal) := by
  pointwise [k0_pay12]
  congr 1
  exact ofBits_8192

/-- The row sums start at zero. -/
theorem pay24_at (k : Fin 8) (c : Fin 512) : (k0_pay24 : FVec Ideal S8x512 .f32) (ix2 k c) = 0 := by
  pointwise [k0_pay24]
theorem pay25_at (k : Fin 8) (c : Fin 512) : (k0_pay25 : FVec Ideal S8x512 .f32) (ix2 k c) = 0 := by
  pointwise [k0_pay25]
theorem pay26_at (k : Fin 8) (c : Fin 512) : (k0_pay26 : FVec Ideal S8x512 .f32) (ix2 k c) = 0 := by
  pointwise [k0_pay26]

/-- The temperature in base two. -/
theorem pay27_at (v : EReal) (c : Fin 256) : k0_pay27 (F := Ideal) v (ix2 0 c) = Ideal.exp v * (kL : EReal) := by
  pointwise [k0_pay27]
  rw [log2e]

/-- The bias in base two. -/
theorem pay28_at (v : EReal) : k0_pay28 (F := Ideal) v = v * (kL : EReal) := by
  unfold k0_pay28
  rw [log2e]; rfl

/-- Where the diagonal passes. -/
theorem slabEye_at (c s i j : ℕ) (hc : c < 2) (hs : s < 32) (hi : i < 16) (hj : j < 8) (r : Fin 32) (col : Fin 256) :
    slabEye c s (Scalar.subi (Scalar.muli (BitVec.ofNat 32 i) 512#32) (Scalar.muli (BitVec.ofNat 32 j) 1024#32)) k0_pay29 (ix2 r col)
      = if 1024 * j + 32 * s + r.val = 512 * i + 256 * c + col.val then 1#1 else 0#1 := by
  have h1 := r.isLt
  have h2 := col.isLt
  pointwise [slabEye, k0_pay29, Scalar.subi, Scalar.muli, Scalar.addi]
  simp only [IntOp.cmpi, IntOp.subi, IntOp.addi, IntOp.muli]
  have he : (BitVec.ofNat 32 r.val - BitVec.ofNat 32 col.val == BitVec.ofNat 32 i * 512#32 - BitVec.ofNat 32 j * 1024#32
      + BitVec.ofNat 32 ((4294967296 + 256 * c - 32 * s) % 4294967296)) = decide (1024 * j + 32 * s + r.val = 512 * i + 256 * c + col.val) := by
    rw [Bool.eq_iff_iff, beq_iff_eq, decide_eq_true_iff, ← BitVec.toNat_inj]
    simp only [BitVec.toNat_sub, BitVec.toNat_add, BitVec.toNat_mul, BitVec.toNat_ofNat]
    omega
  rw [he]
  split_ifs with h <;> simp [h]

/-- Off the diagonal slabs there is no diagonal. -/
theorem onDiag_of (c s i j : ℕ) (hc : c < 2) (hs : s < 32) (hi : i < 16) (hj : j < 8) (r : Fin 32) (col : Fin 256)
    (h : 1024 * j + 32 * s + r.val = 512 * i + 256 * c + col.val) : onDiag c s = true := by
  unfold onDiag
  have h1 := r.isLt
  have h2 := col.isLt
  rw [Nat.blt_eq]
  omega

/-- The sign of the pair. -/
theorem slabNeg_at (c s i j : ℕ) (hc : c < 2) (hs : s < 32) (hi : i < 16) (hj : j < 8) (l : FVec Ideal S32x256 .f32) (r : Fin 32) (col : Fin 256) :
    slabNeg c s (Scalar.subi (Scalar.muli (BitVec.ofNat 32 i) 512#32) (Scalar.muli (BitVec.ofNat 32 j) 1024#32)) k0_pay29 l (ix2 r col)
      = if 1024 * j + 32 * s + r.val = 512 * i + 256 * c + col.val then - l (ix2 r col) else l (ix2 r col) := by
  unfold slabNeg
  by_cases h : onDiag c s = true
  · rw [h, cond_true]
    have he := slabEye_at c s i j hc hs hi hj r col
    pointwise [kS]
    rw [he]
    split_ifs
    · show (0 : EReal) - _ = _
      rw [zero_sub]
    · rfl
  · have h' : onDiag c s = false := by simpa using h
    rw [h', cond_false, if_neg fun e => h (onDiag_of c s i j hc hs hi hj r col e)]

/-- A score at an element. -/
theorem slabZ_at (A : FVec Ideal S1x256 .f32) (bt : Vec Ideal S32x128 .f32) (raw : Vec Ideal S1x32x256 .f32) (r : Fin 32) (c : Fin 256) :
    slabZ A bt raw (ix2 r c) = raw (ix3 0 r c) * (bt (ix2 r ⟨c.val % 128, Nat.mod_lt _ (by norm_num)⟩) * A (ix2 0 c)) := by
  pointwise [slabZ, slabF]
  have h := c.isLt
  rcases Nat.lt_or_ge c.val 128 with h1 | h1
  · rw [dif_pos h1, show (⟨c.val % 128, Nat.mod_lt _ (by norm_num)⟩ : Fin 128) = ⟨c.val, h1⟩ from Fin.ext (Nat.mod_eq_of_lt h1)]
  · rw [dif_neg (Nat.not_lt.mpr h1), show (⟨c.val % 128, Nat.mod_lt _ (by norm_num)⟩ : Fin 128) = ⟨c.val - 128, by omega⟩ from Fin.ext (by show c.val % 128 = c.val - 128; omega)]

end Cert.Proof.KernelIdeal

end
-- ==== Proof.Ideal.PointSum.lean ====
/-
  One grid point of the kernel over the extended reals: given what its inputs and the two factor buffers hold, what it adds to the three row
  sums, as sums over the rows of its block of `y`.
-/
module

public import proofs.«01_k».proof.Proof.Ideal.PointValue

@[expose] public section

set_option maxRecDepth 16384

noncomputable section

namespace Cert.Proof.KernelIdeal

open Cert.KernelIdeal Cert.KernelIdeal.Gen
open Idealize.ShloMosaic

/-! ## The problem of one batch, row by row -/

/-- The scaled score of row `r` of `y` and row `c` of `x`, in base two. -/
def zG (x y : ℕ → Fin 768 → EReal) (t : EReal) (r c : ℕ) : EReal :=
  (∑ d : Fin 768, y r d * x c d) * (invN (y r) * (invN (x c) * (Ideal.exp t * (kL : EReal))))
/-- The logit, negated on the diagonal. -/
def lG (x y : ℕ → Fin 768 → EReal) (t b : EReal) (r c : ℕ) : EReal := if r = c then - (zG x y t r c + b * (kL : EReal)) else zG x y t r c + b * (kL : EReal)
/-- Its sigmoid, negated on the diagonal. -/
def sG (x y : ℕ → Fin 768 → EReal) (t b : EReal) (r c : ℕ) : EReal := if r = c then - sV (lG x y t b r c) else sV (lG x y t b r c)

/-- The rows of a block of `y`. -/
theorem beta_lt (i : grid0.Coords) (r : Fin 1024) : 1024 * (i 2).val + r.val < 8192 := by
  have := (i 2).isLt
  change _ < 8 at this
  omega

/-! ## Loads -/

/-- A load of a box at an element. -/
theorem readAt_at {κ : Kind} {sp : Space} {s : Shape} {e : EltTy} {sg : RefSig} (v : View sg κ sp s e) (f : v.ty.Contents (Elt Ideal)) {off off' size : Fin s.rank → ℕ}
    (inb : ∀ a, off a + size a ≤ s.size a) (y : (Rect.unit off size inb).shape.Idx) (p : s.Idx) (ho : off = off') (h : ∀ a, (p a).val = off' a + (y a).val) :
    v.readAt (Elt Ideal) (Rect.unit off size inb).toLoadRect f y = v.read (Elt Ideal) f p := by
  subst ho
  refine congrArg (v.read (Elt Ideal) f) (funext fun a => Fin.ext ?_)
  show off a + 1 * (y a).val = (p a).val
  rw [h a, Nat.one_mul]

variable (i : grid0.Coords) (arg3 : Memref sig .tc .smem S1 .f32) (arg4 : Memref sig .tc .smem S1 .f32) (arg7 : Memref sig .tc .vmem S1x512x768 .fp8e4m3) (arg8 : Memref sig .tc .vmem S1x1024x768 .fp8e4m3) (arg9 arg12 arg13 : Memref sig .tc .vmem S1x1x512 .f32) (arg14 : Memref sig .tc .vmem S2x1024x256 .f32) (arg19 : Memref sig .tc .vmem S8192x128 .f32) (arg20 arg21 arg22 arg23 : Memref sig .tc .vmem S8x512 .f32)
  (f3 : BufTy.Contents (Elt Ideal) arg3.view.ty) (f4 : BufTy.Contents (Elt Ideal) arg4.view.ty) (f7 : BufTy.Contents (Elt Ideal) arg7.view.ty) (f8 : BufTy.Contents (Elt Ideal) arg8.view.ty)

/-- What the inputs hold at a point: the blocks of `x` and `y`, the temperature and the bias. -/
structure Reads (x y : ℕ → Fin 768 → EReal) (t b : EReal) : Prop where
  hx : ∀ (c : Fin 512) (d : Fin 768), arg7.view.read (Elt Ideal) f7 (ix3 0 c d) = x (512 * (i 1).val + c.val) d
  hy : ∀ (r : Fin 1024) (d : Fin 768), arg8.view.read (Elt Ideal) f8 (ix3 0 r d) = y (1024 * (i 2).val + r.val) d
  ht : arg3.view.read (Elt Ideal) f3 (ix1 0) = t
  hb : arg4.view.read (Elt Ideal) f4 (ix1 0) = b

/-- The rows of `x` of chunk `c`. -/
theorem xRows_at (c : ℕ) (hc : c < 2) (col : Fin 256) (d : Fin 768) :
    xRows arg7 f7 c hc (ix3 0 col d) = arg7.view.read (Elt Ideal) f7 (ix3 0 (⟨256 * c + col.val, by omega⟩ : Fin 512) d) := by
  unfold xRows
  refine readAt_at _ _ _ _ _ rfl fun a => ?_
  fin_cases a
  · rfl
  · rfl
  · exact (Nat.zero_add _).symm

/-- The scores' buffer, read back. -/
theorem raw_at (c : ℕ) (hc : c < 2) (s : ℕ) (hs : s < 32) (r : Fin 32) (col : Fin 256) :
    arg14.view.readCov (rawL arg7 arg8 f7 f8) (Rect.unit (s := S2x1024x256) ![c, 32 * s, 0] S1x32x256.size (raw_inb c s hc hs)).toLoadRect (ix3 0 r col)
      = ∑ d : Fin 768, arg8.view.read (Elt Ideal) f8 (ix3 0 (⟨32 * s + r.val, by omega⟩ : Fin 1024) d) * arg7.view.read (Elt Ideal) f7 (ix3 0 (⟨256 * c + col.val, by omega⟩ : Fin 512) d) := by
  have hy : ∀ (r : Fin 1024) (d : Fin 768), View.readAt (Elt Ideal) arg8.view (Rect.unit (s := S1x1024x768) ![0, 0, 0] S1x1024x768.size inb_S1x1024x768_S1x1024x768_0_0_0).toLoadRect f8 (ix3 0 r d)
      = arg8.view.read (Elt Ideal) f8 (ix3 0 r d) := fun r d => by
    refine readAt_at _ _ _ _ _ rfl fun a => ?_
    fin_cases a <;> exact (Nat.zero_add _).symm
  unfold View.readCov
  rw [readAt_at arg14.view _ _ _ (ix3 (⟨c, hc⟩ : Fin 2) (⟨32 * s + r.val, by omega⟩ : Fin 1024) col) rfl (fun a => by
    fin_cases a
    · rfl
    · rfl
    · exact (Nat.zero_add _).symm)]
  unfold rawL
  obtain rfl | rfl : c = 1 ∨ c = 0 := by omega
  · refine (View.read_writes_cons_unit_of_mem arg14.view _ _ _ _ _ (ix3 (0 : Fin 1) (⟨32 * s + r.val, by omega⟩ : Fin 1024) col) rfl ?_).trans ?_
    · intro a
      fin_cases a
      · rfl
      · exact (Nat.zero_add _).symm
      · exact (Nat.zero_add _).symm
    · rw [pay30_at]
      exact Finset.sum_congr rfl fun d _ => by rw [hy, xRows_at]
  · refine (View.read_writes_cons_unit_of_not_mem arg14.view _ _ _ _ _ rfl (0 : Fin 3) (.inl (by show 0 < 1; norm_num))).trans ?_
    refine (View.read_writes_cons_unit_of_mem arg14.view _ _ _ _ _ (ix3 (0 : Fin 1) (⟨32 * s + r.val, by omega⟩ : Fin 1024) col) rfl ?_).trans ?_
    · intro a
      fin_cases a
      · rfl
      · exact (Nat.zero_add _).symm
      · exact (Nat.zero_add _).symm
    · rw [pay30_at]
      exact Finset.sum_congr rfl fun d _ => by rw [hy, xRows_at]

variable {i arg3 arg4 arg7 arg8 f3 f4 f7 f8}
variable {x y : ℕ → Fin 768 → EReal} {t b : EReal} (hR : Reads i arg3 arg4 arg7 arg8 f3 f4 f7 f8 x y t b)
  (g19 : BufTy.Contents (Elt Ideal) arg19.view.ty) (g20 : BufTy.Contents (Elt Ideal) arg20.view.ty)
  (h19 : ∀ (r : Fin 1024) (l : Fin 128), arg19.view.read (Elt Ideal) g19 (ix2 (⟨1024 * (i 2).val + r.val, beta_lt i r⟩ : Fin 8192) l) = invN (y (1024 * (i 2).val + r.val)))
  (h20 : ∀ c : Fin 512, arg20.view.read (Elt Ideal) g20 (ix2 (0 : Fin 8) c) = invN (x (512 * (i 1).val + c.val)))

include hR h19 h20

/-- A score of the point. -/
theorem ptZ (c : ℕ) (hc : c < 2) (s : ℕ) (hs : s < 32) (r : Fin 32) (col : Fin 256) :
    (ptIn i arg3 arg4 arg7 arg8 arg14 arg19 arg20 f3 f4 f7 f8 c hc g19 g20).z s hs (ix2 r col)
      = zG x y t (1024 * (i 2).val + 32 * s + r.val) (512 * (i 1).val + 256 * c + col.val) := by
  have hA : (ptIn i arg3 arg4 arg7 arg8 arg14 arg19 arg20 f3 f4 f7 f8 c hc g19 g20).A (ix2 0 col)
      = invN (x (512 * (i 1).val + 256 * c + col.val)) * (Ideal.exp t * (kL : EReal)) := by
    show mulf _ _ (ix2 0 col) = _
    rw [mulf_apply, pay27_at, readAt_at arg20.view g20 _ _ (ix2 (0 : Fin 8) (⟨256 * c + col.val, by omega⟩ : Fin 512)) rfl ?_, h20,
      readAt_at arg3.view f3 _ _ (ix1 (0 : Fin 1)) rfl ?_, hR.ht, Nat.add_assoc]
    · rfl
    · intro a; fin_cases a; rfl
    · intro a; fin_cases a <;> rfl
  have hB : (ptIn i arg3 arg4 arg7 arg8 arg14 arg19 arg20 f3 f4 f7 f8 c hc g19 g20).bt s hs (ix2 r ⟨col.val % 128, Nat.mod_lt _ (by norm_num)⟩)
      = invN (y (1024 * (i 2).val + 32 * s + r.val)) := by
    have := (i 2).isLt
    change _ < 8 at this
    show View.readAt (Elt Ideal) arg19.view _ g19 _ = _
    rw [readAt_at arg19.view g19 _ _ (ix2 (⟨1024 * (i 2).val + (⟨32 * s + r.val, by omega⟩ : Fin 1024).val, by show 1024 * (i 2).val + (32 * s + r.val) < 8192; omega⟩ : Fin 8192) (⟨col.val % 128, Nat.mod_lt _ (by norm_num)⟩ : Fin 128)) (k0_off5_eq i ⟨s, hs⟩) (fun a => by
      fin_cases a
      · exact (Nat.add_assoc _ _ _).symm
      · exact (Nat.zero_add _).symm), h19, ← Nat.add_assoc]
  unfold In.z zG
  rw [slabZ_at, hA, hB]
  refine congrArg (fun q : EReal => q * (invN (y (1024 * (i 2).val + 32 * s + r.val)) * (invN (x (512 * (i 1).val + 256 * c + col.val)) * (Ideal.exp t * (kL : EReal))))) ?_
  refine (raw_at arg7 arg8 arg14 f7 f8 c hc s hs r col).trans ?_
  refine Finset.sum_congr rfl fun d _ => ?_
  rw [hR.hx, hR.hy, ← Nat.add_assoc, ← Nat.add_assoc]

/-- A logit of the point. -/
theorem ptL (c : ℕ) (hc : c < 2) (s : ℕ) (hs : s < 32) (r : Fin 32) (col : Fin 256) :
    (ptIn i arg3 arg4 arg7 arg8 arg14 arg19 arg20 f3 f4 f7 f8 c hc g19 g20).lg s hs (ix2 r col)
      = lG x y t b (1024 * (i 2).val + 32 * s + r.val) (512 * (i 1).val + 256 * c + col.val) := by
  have h1 := (i 1).isLt
  have h2 := (i 2).isLt
  change _ < 16 at h1
  change _ < 8 at h2
  have hz := ptZ arg14 arg19 arg20 hR g19 g20 h19 h20 c hc s hs r col
  have hb : (ptIn i arg3 arg4 arg7 arg8 arg14 arg19 arg20 f3 f4 f7 f8 c hc g19 g20).b2 = b * (kL : EReal) := by
    show k0_pay28 (F := Ideal) _ = _
    rw [pay28_at, readAt_at arg4.view f4 _ _ (ix1 (0 : Fin 1)) rfl ?_, hR.hb]
    intro a; fin_cases a; rfl
  unfold In.lg slabL
  refine (slabNeg_at c s (i 1).val (i 2).val hc hs h1 h2 _ r col).trans ?_
  have hb' : broadcast S32x256 (ptIn i arg3 arg4 arg7 arg8 arg14 arg19 arg20 f3 f4 f7 f8 c hc g19 g20).b2 (ix2 r col) = b * (kL : EReal) := hb
  rw [addf_apply, hz, hb']
  rfl

/-- A signed sigmoid of the point. -/
theorem ptS (c : ℕ) (hc : c < 2) (s : ℕ) (hs : s < 32) (r : Fin 32) (col : Fin 256) :
    (ptIn i arg3 arg4 arg7 arg8 arg14 arg19 arg20 f3 f4 f7 f8 c hc g19 g20).sg s hs (ix2 r col)
      = sG x y t b (1024 * (i 2).val + 32 * s + r.val) (512 * (i 1).val + 256 * c + col.val) := by
  have h1 := (i 1).isLt
  have h2 := (i 2).isLt
  change _ < 16 at h1
  change _ < 8 at h2
  have hl := ptL arg14 arg19 arg20 hR g19 g20 h19 h20 c hc s hs r col
  unfold In.sg slabSg
  refine (slabNeg_at c s (i 1).val (i 2).val hc hs h1 h2 _ r col).trans ?_
  rw [slabR_at, hl]
  rfl

end Cert.Proof.KernelIdeal

end
-- ==== Proof.Ideal.PointStep.lean ====
/-
  What one grid point of the kernel does to the factor buffers, to the three row sums and to the three row results, over the extended reals.
-/
module

public import proofs.«01_k».proof.Proof.Ideal.PointSum

@[expose] public section

set_option maxRecDepth 16384

noncomputable section

namespace Cert.Proof.KernelIdeal

open Cert.KernelIdeal Cert.KernelIdeal.Gen
open Idealize.ShloMosaic

/-! ## Regrouping the rows of a block -/

/-- The rows of a block, slab by slab. -/
theorem sum_slabs (T : ℕ → EReal) : ∀ n : ℕ, ∑ s ∈ Finset.range n, ∑ r ∈ Finset.range 32, T (32 * s + r) = ∑ r ∈ Finset.range (32 * n), T r
  | 0 => rfl
  | n + 1 => by rw [Finset.sum_range_succ, sum_slabs T n, Nat.mul_succ, Finset.sum_range_add]

/-- The rows of a slab, eight at a time. -/
theorem sum_slab (T : ℕ → EReal) (a : ℕ) : ∑ k : Fin 8, ∑ m : Fin 4, T (a + (8 * m.val + k.val)) = ∑ r ∈ Finset.range 32, T (a + r) := by
  rw [Finset.sum_comm, ← Fin.sum_univ_eq_sum_range (fun r => T (a + r)) 32, ← Fintype.sum_prod_type' (f := fun (m : Fin 4) (k : Fin 8) => T (a + (8 * m.val + k.val)))]
  refine Fintype.sum_equiv finProdFinEquiv _ _ fun p => ?_
  show T _ = T (a + (p.2.val + 8 * p.1.val))
  rw [Nat.add_comm p.2.val]

/-- The eight running sums of a column together run over the rows of the block. -/
theorem sum_four (f : (s : ℕ) → s < 32 → Fin 32 → Fin 256 → EReal) (T : ℕ → EReal) (c : Fin 256) (h : ∀ s hs r, f s hs r c = T (32 * s + r.val)) :
    ∑ k : Fin 8, ∑ s ∈ Finset.range 32, In.four f k c s = ∑ r ∈ Finset.range 1024, T r := by
  rw [Finset.sum_comm, ← sum_slabs T 32]
  refine Finset.sum_congr rfl fun s hs => ?_
  have hs := Finset.mem_range.mp hs
  rw [← sum_slab T (32 * s)]
  refine Finset.sum_congr rfl fun k _ => ?_
  rw [In.four, dif_pos hs]
  exact Finset.sum_congr rfl fun m _ => h _ _ _

/-! ## The row-sum buffers -/

variable (m : Memref sig .tc .vmem S8x512 .f32)

/-- The sum of a column of a row-sum buffer. -/
def colSum (g : BufTy.Contents (Elt Ideal) m.view.ty) (C : Fin 512) : EReal := ∑ k : Fin 8, m.view.read (Elt Ideal) g (ix2 k C)

theorem shapeCast_self (a : FVec Ideal S8x256 .f32) (k : Fin 8) (c : Fin 256) : shapeCast S8x256 a shapeCasts_S8x256_S8x256 (ix2 k c) = a (ix2 k c) := by
  pointwise

/-- The two chunks' stores, read back. -/
theorem two_at (f : BufTy.Contents (Elt Ideal) m.view.ty) (st : (c : ℕ) → c < 2 → FVec Ideal S8x256 .f32) (c : ℕ) (hc : c < 2) (k : Fin 8) (col : Fin 256) :
    m.view.read (Elt Ideal) (m.view.writes (Elt Ideal) f (two (st 0 (by omega)) (st 1 (by omega)))) (ix2 k (⟨256 * c + col.val, by omega⟩ : Fin 512)) = st c hc (ix2 k col) := by
  unfold two
  obtain rfl | rfl : c = 1 ∨ c = 0 := by omega
  · refine (View.read_writes_cons_unit_of_mem m.view _ _ _ _ _ (ix2 k col) rfl ?_).trans (shapeCast_self _ _ _)
    intro a
    fin_cases a
    · exact (Nat.zero_add _).symm
    · rfl
  · refine (View.read_writes_cons_unit_of_not_mem m.view _ _ _ _ _ rfl (1 : Fin 2) (.inl ?_)).trans ?_
    · show 256 * 0 + col.val < 256
      omega
    refine (View.read_writes_cons_unit_of_mem m.view _ _ _ _ _ (ix2 k col) rfl ?_).trans (shapeCast_self _ _ _)
    intro a
    fin_cases a
    · exact (Nat.zero_add _).symm
    · rfl

/-- The column sums after the two chunks' stores. -/
theorem two_sum (f z : BufTy.Contents (Elt Ideal) m.view.ty) (st : (c : ℕ) → c < 2 → FVec Ideal S8x256 .f32) (T : ℕ → ℕ → EReal)
    (h : ∀ (c : ℕ) (hc : c < 2) (col : Fin 256), ∑ k : Fin 8, st c hc (ix2 k col) = colSum m z (⟨256 * c + col.val, by omega⟩ : Fin 512) + ∑ r ∈ Finset.range 1024, T r (256 * c + col.val))
    (C : Fin 512) :
    colSum m (m.view.writes (Elt Ideal) f (two (st 0 (by omega)) (st 1 (by omega)))) C = colSum m z C + ∑ r ∈ Finset.range 1024, T r C.val := by
  obtain ⟨c, hc, col, rfl⟩ : ∃ (c : ℕ) (hc : c < 2) (col : Fin 256), C = (⟨256 * c + col.val, by omega⟩ : Fin 512) :=
    ⟨C.val / 256, by omega, ⟨C.val % 256, Nat.mod_lt _ (by norm_num)⟩, Fin.ext (Nat.div_add_mod _ _).symm⟩
  rw [← h c hc col]
  exact Finset.sum_congr rfl fun k _ => two_at m f st c hc k col

/-- The whole buffer, read back after its stores. -/
theorem whole8_at (L : List (View.Piece (Elt Ideal) S8x512 .f32)) (k : Fin 8) (C : Fin 512) :
    whole8 m L (ix2 k C) = m.view.read (Elt Ideal) (m.view.writes (Elt Ideal) m.view.junk L) (ix2 k C) := by
  unfold whole8 View.readCov
  refine readAt_at _ _ _ _ _ rfl fun a => ?_
  fin_cases a <;> exact (Nat.zero_add _).symm

/-- A chunk at an element. -/
theorem chunk_at (c : ℕ) (hc : c < 2) (f : BufTy.Contents (Elt Ideal) m.view.ty) (k : Fin 8) (col : Fin 256) :
    chunk c hc m f (ix2 k col) = m.view.read (Elt Ideal) f (ix2 k (⟨256 * c + col.val, by omega⟩ : Fin 512)) := by
  unfold chunk
  refine readAt_at _ _ _ _ _ rfl fun a => ?_
  fin_cases a
  · exact (Nat.zero_add _).symm
  · rfl

/-- The column sums of a zeroed buffer. -/
theorem zeroed_sum (i : grid0.Coords) (v : FVec Ideal S8x512 .f32) (hv : ∀ k C, v (ix2 k C) = 0) (f : BufTy.Contents (Elt Ideal) m.view.ty) (C : Fin 512) :
    colSum m (zeroed i m v f) C = if J0 i then 0 else colSum m f C := by
  unfold zeroed
  split_ifs with h
  · refine (Finset.sum_congr rfl fun k _ => ?_).trans (Finset.sum_const_zero (s := (Finset.univ : Finset (Fin 8))))
    refine (View.read_writes_cons_unit_of_mem m.view _ _ _ _ _ (ix2 k C) rfl ?_).trans (hv k C)
    intro a
    fin_cases a <;> exact (Nat.zero_add _).symm
  · rfl

variable {i : grid0.Coords} {arg3 : Memref sig .tc .smem S1 .f32} {arg4 : Memref sig .tc .smem S1 .f32} {arg7 : Memref sig .tc .vmem S1x512x768 .fp8e4m3} {arg8 : Memref sig .tc .vmem S1x1024x768 .fp8e4m3} {arg9 arg12 arg13 : Memref sig .tc .vmem S1x1x512 .f32} {arg14 : Memref sig .tc .vmem S2x1024x256 .f32} {arg19 : Memref sig .tc .vmem S8192x128 .f32} {arg20 arg21 arg22 arg23 : Memref sig .tc .vmem S8x512 .f32}
  {f3 : BufTy.Contents (Elt Ideal) arg3.view.ty} {f4 : BufTy.Contents (Elt Ideal) arg4.view.ty} {f7 : BufTy.Contents (Elt Ideal) arg7.view.ty} {f8 : BufTy.Contents (Elt Ideal) arg8.view.ty}
  {f9 g9 : BufTy.Contents (Elt Ideal) arg9.view.ty} {f12 g12 : BufTy.Contents (Elt Ideal) arg12.view.ty} {f13 g13 : BufTy.Contents (Elt Ideal) arg13.view.ty}
  {f19 g19 : BufTy.Contents (Elt Ideal) arg19.view.ty} {f20 g20 : BufTy.Contents (Elt Ideal) arg20.view.ty}
  {f21 g21 : BufTy.Contents (Elt Ideal) arg21.view.ty} {f22 g22 : BufTy.Contents (Elt Ideal) arg22.view.ty} {f23 g23 : BufTy.Contents (Elt Ideal) arg23.view.ty}
  (H : RowFacts i arg3 arg4 arg7 arg8 arg9 arg12 arg13 arg14 arg19 arg20 arg21 arg22 arg23 f3 f4 f7 f8 f9 g9 f12 g12 f13 g13 f19 g19 f20 g20 f21 g21 f22 g22 f23 g23)
  {x y : ℕ → Fin 768 → EReal} {t b : EReal} (hR : Reads i arg3 arg4 arg7 arg8 f3 f4 f7 f8 x y t b)

include H hR

/-! ## The factors -/

/-- On the first row of blocks the factors of the block's rows of `y` are made. -/
theorem RowFacts.beta_new (h : k0_cond1 i = 1#1) (r : Fin 1024) (l : Fin 128) :
    arg19.view.read (Elt Ideal) g19 (ix2 (⟨1024 * (i 2).val + r.val, beta_lt i r⟩ : Fin 8192) l) = invN (y (1024 * (i 2).val + r.val)) := by
  have hT : k0_t1_loop.trips = 4 := by decide +kernel
  rw [H.h19 h]
  refine (View.read_tilePieces arg19.view f19 _ _ _ _ _ _ _ (⟨r.val / 256, by omega⟩ : Fin k0_t1_loop.trips) (by show r.val / 256 < _; omega)
    (ix2 (⟨r.val % 256, Nat.mod_lt _ (by norm_num)⟩ : Fin 256) l) ?_ (0 : Fin 2) ?_).trans ?_
  · intro a
    rw [k0_off2_eq]
    fin_cases a
    · show 1024 * (i 2).val + r.val = 1024 * (i 2).val + 256 * (r.val / 256) + r.val % 256
      omega
    · exact (Nat.zero_add _).symm
  · intro i' hi'
    rw [k0_off2_eq]
    show 1024 * (i 2).val + r.val < 1024 * (i 2).val + 256 * i'.val ∨ 1024 * (i 2).val + 256 * i'.val + 256 ≤ 1024 * (i 2).val + r.val
    have : i'.val ≠ r.val / 256 := fun e => hi' (Fin.ext e)
    omega
  · show k0_pay5 _ (ix2 _ _) = _
    rw [pay5_at]
    refine congrArg invN (funext fun d => ?_)
    rw [← hR.hy]
    refine readAt_at _ _ _ _ _ (k0_off1_eq _) fun a => ?_
    fin_cases a
    · rfl
    · show r.val = 256 * (r.val / 256) + r.val % 256
      omega
    · exact (Nat.zero_add _).symm

/-- The other rows' factors stay. -/
theorem RowFacts.beta_old (r : Fin 8192) (hr : r.val < 1024 * (i 2).val) (l : Fin 128) :
    arg19.view.read (Elt Ideal) g19 (ix2 r l) = arg19.view.read (Elt Ideal) f19 (ix2 r l) := by
  by_cases h : k0_cond1 i = 1#1
  · rw [H.h19 h]
    refine View.read_tilePieces_miss arg19.view f19 _ _ _ _ _ _ _ (0 : Fin 2) fun i' _ => ?_
    rw [k0_off2_eq]
    left
    show r.val < 1024 * (i 2).val + 256 * i'.val
    omega
  · rw [H.h19' h]

/-- At the first point of a row of blocks the factors of the block's rows of `x` are made. -/
theorem RowFacts.alpha_new (h : J0 i) (k : Fin 8) (C : Fin 512) :
    arg20.view.read (Elt Ideal) g20 (ix2 k C) = invN (x (512 * (i 1).val + C.val)) := by
  rw [H.h20, if_pos h]
  obtain ⟨c, hc, col, rfl⟩ : ∃ (c : ℕ) (hc : c < 2) (col : Fin 256), C = (⟨256 * c + col.val, by omega⟩ : Fin 512) :=
    ⟨C.val / 256, by omega, ⟨C.val % 256, Nat.mod_lt _ (by norm_num)⟩, Fin.ext (Nat.div_add_mod _ _).symm⟩
  obtain rfl | rfl : c = 1 ∨ c = 0 := by omega
  · refine (View.read_writes_cons_unit_of_mem arg20.view _ _ _ _ _ (ix2 k col) rfl ?_).trans ?_
    · intro a
      fin_cases a
      · exact (Nat.zero_add _).symm
      · rfl
    · rw [pay8_at]
      exact congrArg invN (funext fun d => (xRows_at arg7 f7 _ _ col d).trans (hR.hx _ d))
  · refine (View.read_writes_cons_unit_of_not_mem arg20.view _ _ _ _ _ rfl (1 : Fin 2) (.inl ?_)).trans ?_
    · show 256 * 0 + col.val < 256
      omega
    refine (View.read_writes_cons_unit_of_mem arg20.view _ _ _ _ _ (ix2 k col) rfl ?_).trans ?_
    · intro a
      fin_cases a
      · exact (Nat.zero_add _).symm
      · rfl
    · rw [pay8_at]
      exact congrArg invN (funext fun d => (xRows_at arg7 f7 _ _ col d).trans (hR.hx _ d))

/-! ## The row sums -/

variable (h19 : ∀ (r : Fin 1024) (l : Fin 128), arg19.view.read (Elt Ideal) g19 (ix2 (⟨1024 * (i 2).val + r.val, beta_lt i r⟩ : Fin 8192) l) = invN (y (1024 * (i 2).val + r.val)))
  (h20 : ∀ c : Fin 512, arg20.view.read (Elt Ideal) g20 (ix2 (0 : Fin 8) c) = invN (x (512 * (i 1).val + c.val)))

include h19 h20

omit H in
/-- What the slabs of a chunk add to the loss sums. -/
theorem ptSt_l (z21 : BufTy.Contents (Elt Ideal) arg21.view.ty) (z22 : BufTy.Contents (Elt Ideal) arg22.view.ty) (z23 : BufTy.Contents (Elt Ideal) arg23.view.ty) (c : ℕ) (hc : c < 2) (col : Fin 256) :
    ∑ k : Fin 8, (ptSt i arg3 arg4 arg7 arg8 arg14 arg19 arg20 arg21 arg22 arg23 f3 f4 f7 f8 c hc g19 g20 z21 z22 z23).l (ix2 k col)
      = colSum arg21 z21 (⟨256 * c + col.val, by omega⟩ : Fin 512) + ∑ r ∈ Finset.range 1024, lossV (lG x y t b (1024 * (i 2).val + r) (512 * (i 1).val + (256 * c + col.val))) := by
  rw [← sum_four (fun s hs r c' => lossV ((ptIn i arg3 arg4 arg7 arg8 arg14 arg19 arg20 f3 f4 f7 f8 c hc g19 g20).L s hs r c')) _ col (fun s hs r => by
      rw [← Nat.add_assoc, ← Nat.add_assoc, ← ptL arg14 arg19 arg20 hR g19 g20 h19 h20 c hc s hs r col]),
    colSum, ← Finset.sum_add_distrib]
  refine Finset.sum_congr rfl fun k _ => ?_
  rw [ptSt, In.st_loss]
  refine congrArg (· + _) ?_
  exact chunk_at arg21 c hc z21 k col

omit H in
/-- What the slabs of a chunk add to the sums for the derivative of the temperature. -/
theorem ptSt_d (z21 : BufTy.Contents (Elt Ideal) arg21.view.ty) (z22 : BufTy.Contents (Elt Ideal) arg22.view.ty) (z23 : BufTy.Contents (Elt Ideal) arg23.view.ty) (c : ℕ) (hc : c < 2) (col : Fin 256) :
    ∑ k : Fin 8, (ptSt i arg3 arg4 arg7 arg8 arg14 arg19 arg20 arg21 arg22 arg23 f3 f4 f7 f8 c hc g19 g20 z21 z22 z23).d (ix2 k col)
      = colSum arg22 z22 (⟨256 * c + col.val, by omega⟩ : Fin 512)
        + ∑ r ∈ Finset.range 1024, sG x y t b (1024 * (i 2).val + r) (512 * (i 1).val + (256 * c + col.val)) * zG x y t (1024 * (i 2).val + r) (512 * (i 1).val + (256 * c + col.val)) := by
  rw [← sum_four (fun s hs r c' => (ptIn i arg3 arg4 arg7 arg8 arg14 arg19 arg20 f3 f4 f7 f8 c hc g19 g20).sg s hs (ix2 r c') * (ptIn i arg3 arg4 arg7 arg8 arg14 arg19 arg20 f3 f4 f7 f8 c hc g19 g20).z s hs (ix2 r c')) _ col (fun s hs r => by
      rw [← Nat.add_assoc, ← Nat.add_assoc, ← ptS arg14 arg19 arg20 hR g19 g20 h19 h20 c hc s hs r col, ← ptZ arg14 arg19 arg20 hR g19 g20 h19 h20 c hc s hs r col]),
    colSum, ← Finset.sum_add_distrib]
  refine Finset.sum_congr rfl fun k _ => ?_
  rw [ptSt, (In.st_db _ _ k col 32 (Nat.le_refl 32)).1]
  refine congrArg (· + _) ?_
  exact chunk_at arg22 c hc z22 k col

omit H in
/-- What the slabs of a chunk add to the sums for the derivative of the bias. -/
theorem ptSt_b (z21 : BufTy.Contents (Elt Ideal) arg21.view.ty) (z22 : BufTy.Contents (Elt Ideal) arg22.view.ty) (z23 : BufTy.Contents (Elt Ideal) arg23.view.ty) (c : ℕ) (hc : c < 2) (col : Fin 256) :
    ∑ k : Fin 8, (ptSt i arg3 arg4 arg7 arg8 arg14 arg19 arg20 arg21 arg22 arg23 f3 f4 f7 f8 c hc g19 g20 z21 z22 z23).b (ix2 k col)
      = colSum arg23 z23 (⟨256 * c + col.val, by omega⟩ : Fin 512) + ∑ r ∈ Finset.range 1024, sG x y t b (1024 * (i 2).val + r) (512 * (i 1).val + (256 * c + col.val)) := by
  rw [← sum_four (fun s hs r c' => (ptIn i arg3 arg4 arg7 arg8 arg14 arg19 arg20 f3 f4 f7 f8 c hc g19 g20).sg s hs (ix2 r c')) _ col (fun s hs r => by
      rw [← Nat.add_assoc, ← Nat.add_assoc, ← ptS arg14 arg19 arg20 hR g19 g20 h19 h20 c hc s hs r col]),
    colSum, ← Finset.sum_add_distrib]
  refine Finset.sum_congr rfl fun k _ => ?_
  rw [ptSt, (In.st_db _ _ k col 32 (Nat.le_refl 32)).2]
  refine congrArg (· + _) ?_
  exact chunk_at arg23 c hc z23 k col

/-- The loss sums after the point. -/
theorem RowFacts.sum21 (C : Fin 512) : colSum arg21 g21 C = (if J0 i then 0 else colSum arg21 f21 C)
    + ∑ r ∈ Finset.range 1024, lossV (lG x y t b (1024 * (i 2).val + r) (512 * (i 1).val + C.val)) := by
  rw [H.h21]
  refine (two_sum arg21 _ (zeroed i arg21 k0_pay24 f21) (fun c hc => (ptSt i arg3 arg4 arg7 arg8 arg14 arg19 arg20 arg21 arg22 arg23 f3 f4 f7 f8 c hc g19 g20 (zeroed i arg21 k0_pay24 f21) (zeroed i arg22 k0_pay25 f22) (zeroed i arg23 k0_pay26 f23)).l)
    (fun r C => lossV (lG x y t b (1024 * (i 2).val + r) (512 * (i 1).val + C))) (ptSt_l hR h19 h20 _ _ _) C).trans ?_
  rw [zeroed_sum arg21 i _ pay24_at]
/-- The sums for the derivative of the temperature after the point. -/
theorem RowFacts.sum22 (C : Fin 512) : colSum arg22 g22 C = (if J0 i then 0 else colSum arg22 f22 C)
    + ∑ r ∈ Finset.range 1024, sG x y t b (1024 * (i 2).val + r) (512 * (i 1).val + C.val) * zG x y t (1024 * (i 2).val + r) (512 * (i 1).val + C.val) := by
  rw [H.h22]
  refine (two_sum arg22 _ (zeroed i arg22 k0_pay25 f22) (fun c hc => (ptSt i arg3 arg4 arg7 arg8 arg14 arg19 arg20 arg21 arg22 arg23 f3 f4 f7 f8 c hc g19 g20 (zeroed i arg21 k0_pay24 f21) (zeroed i arg22 k0_pay25 f22) (zeroed i arg23 k0_pay26 f23)).d)
    (fun r C => sG x y t b (1024 * (i 2).val + r) (512 * (i 1).val + C) * zG x y t (1024 * (i 2).val + r) (512 * (i 1).val + C)) (ptSt_d hR h19 h20 _ _ _) C).trans ?_
  rw [zeroed_sum arg22 i _ pay25_at]
/-- The sums for the derivative of the bias after the point. -/
theorem RowFacts.sum23 (C : Fin 512) : colSum arg23 g23 C = (if J0 i then 0 else colSum arg23 f23 C)
    + ∑ r ∈ Finset.range 1024, sG x y t b (1024 * (i 2).val + r) (512 * (i 1).val + C.val) := by
  rw [H.h23]
  refine (two_sum arg23 _ (zeroed i arg23 k0_pay26 f23) (fun c hc => (ptSt i arg3 arg4 arg7 arg8 arg14 arg19 arg20 arg21 arg22 arg23 f3 f4 f7 f8 c hc g19 g20 (zeroed i arg21 k0_pay24 f21) (zeroed i arg22 k0_pay25 f22) (zeroed i arg23 k0_pay26 f23)).b)
    (fun r C => sG x y t b (1024 * (i 2).val + r) (512 * (i 1).val + C)) (ptSt_b hR h19 h20 _ _ _) C).trans ?_
  rw [zeroed_sum arg23 i _ pay26_at]

omit hR h19 h20

omit H in
/-- The stores of a whole row-sum buffer read the same over any contents. -/
theorem two_any (m : Memref sig .tc .vmem S8x512 .f32) (a b : FVec Ideal S8x256 .f32) (f : BufTy.Contents (Elt Ideal) m.view.ty) (C : Fin 512) :
    ∑ k : Fin 8, whole8 m (two a b) (ix2 k C) = colSum m (m.view.writes (Elt Ideal) f (two a b)) C := by
  obtain ⟨c, hc, col, rfl⟩ : ∃ (c : ℕ) (hc : c < 2) (col : Fin 256), C = (⟨256 * c + col.val, by omega⟩ : Fin 512) :=
    ⟨C.val / 256, by omega, ⟨C.val % 256, Nat.mod_lt _ (by norm_num)⟩, Fin.ext (Nat.div_add_mod _ _).symm⟩
  refine Finset.sum_congr rfl fun k _ => ?_
  rw [whole8_at]
  exact (two_at m _ (fun c _ => if c = 0 then a else b) c hc k col).trans (two_at m f (fun c _ => if c = 0 then a else b) c hc k col).symm

/-- The loss stored at the last point of a row of blocks. -/
theorem RowFacts.out9 (h : k0_cond3 i = 1#1) (C : Fin 512) : arg9.view.read (Elt Ideal) g9 (ix3 (0 : Fin 1) (0 : Fin 1) C) = colSum arg21 g21 C * ((Real.log 2 : ℝ) : EReal) := by
  rw [H.h9 h, H.h21]
  refine (View.read_writes_cons_unit_of_mem arg9.view _ _ _ _ _ (ix3 (0 : Fin 1) (0 : Fin 1) C) rfl ?_).trans ?_
  · intro a
    fin_cases a <;> exact (Nat.zero_add _).symm
  · rw [pay10_at, two_any]
/-- The derivative of the temperature stored at the last point of a row of blocks. -/
theorem RowFacts.out12 (h : k0_cond3 i = 1#1) (C : Fin 512) : arg12.view.read (Elt Ideal) g12 (ix3 (0 : Fin 1) (0 : Fin 1) C) = colSum arg22 g22 C * ((Real.log 2 * 8192⁻¹ : ℝ) : EReal) := by
  rw [H.h12 h, H.h22]
  refine (View.read_writes_cons_unit_of_mem arg12.view _ _ _ _ _ (ix3 (0 : Fin 1) (0 : Fin 1) C) rfl ?_).trans ?_
  · intro a
    fin_cases a <;> exact (Nat.zero_add _).symm
  · rw [pay11_at, two_any]
/-- The derivative of the bias stored at the last point of a row of blocks. -/
theorem RowFacts.out13 (h : k0_cond3 i = 1#1) (C : Fin 512) : arg13.view.read (Elt Ideal) g13 (ix3 (0 : Fin 1) (0 : Fin 1) C) = colSum arg23 g23 C * ((8192⁻¹ : ℝ) : EReal) := by
  rw [H.h13 h, H.h23]
  refine (View.read_writes_cons_unit_of_mem arg13.view _ _ _ _ _ (ix3 (0 : Fin 1) (0 : Fin 1) C) rfl ?_).trans ?_
  · intro a
    fin_cases a <;> exact (Nat.zero_add _).symm
  · rw [pay12_at, two_any]

end Cert.Proof.KernelIdeal

end
-- ==== Proof.Ideal.PointInv.lean ====
/-
  What the factor buffers and the row-sum buffers hold before each grid point, and that every point keeps it.
-/
module

public import proofs.«01_k».proof.Proof.Ideal.PointStep

@[expose] public section

set_option maxRecDepth 16384

noncomputable section

namespace Cert.Proof.KernelIdeal

open Cert.KernelIdeal Cert.KernelIdeal.Gen
open Idealize.ShloMosaic

/-- A point's batch, block of `x` and block of `y`. -/
theorem coords_val : ∀ t : Fin grid0.N, (grid0.coords t 0).val = t.val / 128 ∧ (grid0.coords t 1).val = t.val / 8 % 16 ∧ (grid0.coords t 2).val = t.val % 8 := by
  decide +kernel
/-- The body's tests on the point. -/
theorem conds_val : ∀ t : Fin grid0.N, (k0_cond1 (grid0.coords t) = 1#1 ↔ t.val / 8 % 16 = 0) ∧ (J0 (grid0.coords t) ↔ t.val % 8 = 0) ∧ (k0_cond3 (grid0.coords t) = 1#1 ↔ t.val % 8 = 7) := by
  decide +kernel

variable (X Y : ℕ → ℕ → Fin 768 → EReal) (T B : EReal)

/-- A term of the loss, of the derivative of the temperature and of the derivative of the bias. -/
def lossT (n r c : ℕ) : EReal := lossV (lG (X n) (Y n) T B r c)
def dtT (n r c : ℕ) : EReal := sG (X n) (Y n) T B r c * zG (X n) (Y n) T r c
def dbT (n r c : ℕ) : EReal := sG (X n) (Y n) T B r c

variable {arg3 : Memref sig .tc .smem S1 .f32} {arg4 : Memref sig .tc .smem S1 .f32} {arg7 : Memref sig .tc .vmem S1x512x768 .fp8e4m3} {arg8 : Memref sig .tc .vmem S1x1024x768 .fp8e4m3} {arg9 arg12 arg13 : Memref sig .tc .vmem S1x1x512 .f32} {arg14 : Memref sig .tc .vmem S2x1024x256 .f32} (arg19 : Memref sig .tc .vmem S8192x128 .f32) (arg20 arg21 arg22 arg23 : Memref sig .tc .vmem S8x512 .f32)

/-- What the five carried buffers hold before point `t`. -/
structure Inv (t : ℕ) (f19 : BufTy.Contents (Elt Ideal) arg19.view.ty) (f20 : BufTy.Contents (Elt Ideal) arg20.view.ty)
    (f21 : BufTy.Contents (Elt Ideal) arg21.view.ty) (f22 : BufTy.Contents (Elt Ideal) arg22.view.ty) (f23 : BufTy.Contents (Elt Ideal) arg23.view.ty) : Prop where
  beta : ∀ (r : Fin 8192) (l : Fin 128), (0 < t / 8 % 16 ∨ r.val < 1024 * (t % 8)) → arg19.view.read (Elt Ideal) f19 (ix2 r l) = invN (Y (t / 128) r.val)
  alpha : 0 < t % 8 → ∀ (k : Fin 8) (C : Fin 512), arg20.view.read (Elt Ideal) f20 (ix2 k C) = invN (X (t / 128) (512 * (t / 8 % 16) + C.val))
  s21 : 0 < t % 8 → ∀ C : Fin 512, colSum arg21 f21 C = ∑ r ∈ Finset.range (1024 * (t % 8)), lossT X Y T B (t / 128) r (512 * (t / 8 % 16) + C.val)
  s22 : 0 < t % 8 → ∀ C : Fin 512, colSum arg22 f22 C = ∑ r ∈ Finset.range (1024 * (t % 8)), dtT X Y T B (t / 128) r (512 * (t / 8 % 16) + C.val)
  s23 : 0 < t % 8 → ∀ C : Fin 512, colSum arg23 f23 C = ∑ r ∈ Finset.range (1024 * (t % 8)), dbT X Y T B (t / 128) r (512 * (t / 8 % 16) + C.val)

/-- Before the first point nothing is asked. -/
theorem Inv.zero (f19 : BufTy.Contents (Elt Ideal) arg19.view.ty) (f20 : BufTy.Contents (Elt Ideal) arg20.view.ty)
    (f21 : BufTy.Contents (Elt Ideal) arg21.view.ty) (f22 : BufTy.Contents (Elt Ideal) arg22.view.ty) (f23 : BufTy.Contents (Elt Ideal) arg23.view.ty) :
    Inv X Y T B arg19 arg20 arg21 arg22 arg23 0 f19 f20 f21 f22 f23 :=
  ⟨fun r _ h => by simp at h, fun h => absurd h (by decide), fun h => absurd h (by decide), fun h => absurd h (by decide), fun h => absurd h (by decide)⟩

/-- One more block of a sum. -/
theorem sum_block (P : Prop) [Decidable P] (j : ℕ) (hP : P ↔ j = 0) (s : EReal) (F : ℕ → EReal) (hs : 0 < j → s = ∑ r ∈ Finset.range (1024 * j), F r) :
    (if P then 0 else s) + ∑ r ∈ Finset.range 1024, F (1024 * j + r) = ∑ r ∈ Finset.range (1024 * (j + 1)), F r := by
  rw [Nat.mul_succ, Finset.sum_range_add]
  by_cases h : j = 0
  · rw [if_pos (hP.mpr h)]; subst h; simp
  · rw [if_neg fun p => h (hP.mp p), hs (Nat.pos_of_ne_zero h)]

variable {X Y T B arg19 arg20 arg21 arg22 arg23}
variable {f3 : BufTy.Contents (Elt Ideal) arg3.view.ty} {f4 : BufTy.Contents (Elt Ideal) arg4.view.ty} {f7 : BufTy.Contents (Elt Ideal) arg7.view.ty} {f8 : BufTy.Contents (Elt Ideal) arg8.view.ty}
  {f9 g9 : BufTy.Contents (Elt Ideal) arg9.view.ty} {f12 g12 : BufTy.Contents (Elt Ideal) arg12.view.ty} {f13 g13 : BufTy.Contents (Elt Ideal) arg13.view.ty}
  {f19 g19 : BufTy.Contents (Elt Ideal) arg19.view.ty} {f20 g20 : BufTy.Contents (Elt Ideal) arg20.view.ty}
  {f21 g21 : BufTy.Contents (Elt Ideal) arg21.view.ty} {f22 g22 : BufTy.Contents (Elt Ideal) arg22.view.ty} {f23 g23 : BufTy.Contents (Elt Ideal) arg23.view.ty}

/-- A row result's block after point `t`: at the last point of a row of blocks, the whole sums. -/
def RowOut (F : ℕ → ℕ → ℕ → EReal) (κ : EReal) (t : ℕ) (x : S1x1x512.Idx → EReal) : Prop :=
  t % 8 = 7 → ∀ C : Fin 512, x (ix3 (0 : Fin 1) (0 : Fin 1) C) = (∑ r ∈ Finset.range 8192, F (t / 128) r (512 * (t / 8 % 16) + C.val)) * κ

/-- The factors after a point. -/
theorem Inv.after (t : Fin grid0.N) (hI : Inv X Y T B arg19 arg20 arg21 arg22 arg23 t.val f19 f20 f21 f22 f23)
    (H : RowFacts (grid0.coords t) arg3 arg4 arg7 arg8 arg9 arg12 arg13 arg14 arg19 arg20 arg21 arg22 arg23 f3 f4 f7 f8 f9 g9 f12 g12 f13 g13 f19 g19 f20 g20 f21 g21 f22 g22 f23 g23)
    (hR : Reads (grid0.coords t) arg3 arg4 arg7 arg8 f3 f4 f7 f8 (X (t.val / 128)) (Y (t.val / 128)) T B) :
    (∀ (r : Fin 8192) (l : Fin 128), (0 < t.val / 8 % 16 ∨ r.val < 1024 * (t.val % 8 + 1)) → arg19.view.read (Elt Ideal) g19 (ix2 r l) = invN (Y (t.val / 128) r.val))
      ∧ ∀ (k : Fin 8) (C : Fin 512), arg20.view.read (Elt Ideal) g20 (ix2 k C) = invN (X (t.val / 128) (512 * (t.val / 8 % 16) + C.val)) := by
  obtain ⟨h0, h1, h2⟩ := coords_val t
  obtain ⟨k1, k2, k3⟩ := conds_val t
  have hβ : ∀ (r : Fin 8192) (l : Fin 128), (0 < t.val / 8 % 16 ∨ r.val < 1024 * (t.val % 8 + 1)) → arg19.view.read (Elt Ideal) g19 (ix2 r l) = invN (Y (t.val / 128) r.val) := by
    intro r l hr
    by_cases hi : t.val / 8 % 16 = 0
    · by_cases hlt : r.val < 1024 * (t.val % 8)
      · rw [H.beta_old hR r (by rw [h2]; exact hlt) l]
        exact hI.beta r l (.inr hlt)
      · have hr' : r.val < 1024 * (t.val % 8 + 1) := by omega
        have e := H.beta_new hR (k1.mpr hi) (⟨r.val - 1024 * (t.val % 8), by omega⟩ : Fin 1024) l
        have hv : 1024 * (grid0.coords t 2).val + (r.val - 1024 * (t.val % 8)) = r.val := by rw [h2]; omega
        rw [show r = (⟨1024 * (grid0.coords t 2).val + (⟨r.val - 1024 * (t.val % 8), by omega⟩ : Fin 1024).val, beta_lt _ _⟩ : Fin 8192) from Fin.ext hv.symm]
        exact e
    · rw [H.h19' fun h => hi (k1.mp h)]
      exact hI.beta r l (.inl (Nat.pos_of_ne_zero hi))
  have hα : ∀ (k : Fin 8) (C : Fin 512), arg20.view.read (Elt Ideal) g20 (ix2 k C) = invN (X (t.val / 128) (512 * (t.val / 8 % 16) + C.val)) := by
    intro k C
    by_cases hj : t.val % 8 = 0
    · rw [H.alpha_new hR (k2.mpr hj) k C, h1]
    · rw [H.h20, if_neg fun h => hj (k2.mp h)]
      exact hI.alpha (Nat.pos_of_ne_zero hj) k C
  exact ⟨hβ, hα⟩

/-- Every point keeps what the buffers hold, and the last of a row of blocks stores the row results. -/
theorem Inv.step (t : Fin grid0.N) (hI : Inv X Y T B arg19 arg20 arg21 arg22 arg23 t.val f19 f20 f21 f22 f23)
    (H : RowFacts (grid0.coords t) arg3 arg4 arg7 arg8 arg9 arg12 arg13 arg14 arg19 arg20 arg21 arg22 arg23 f3 f4 f7 f8 f9 g9 f12 g12 f13 g13 f19 g19 f20 g20 f21 g21 f22 g22 f23 g23)
    (hR : Reads (grid0.coords t) arg3 arg4 arg7 arg8 f3 f4 f7 f8 (X (t.val / 128)) (Y (t.val / 128)) T B) :
    Inv X Y T B arg19 arg20 arg21 arg22 arg23 (t.val + 1) g19 g20 g21 g22 g23
      ∧ RowOut (lossT X Y T B) ((Real.log 2 : ℝ) : EReal) t.val (arg9.view.read (Elt Ideal) g9)
      ∧ RowOut (dtT X Y T B) ((Real.log 2 * 8192⁻¹ : ℝ) : EReal) t.val (arg12.view.read (Elt Ideal) g12)
      ∧ RowOut (dbT X Y T B) ((8192⁻¹ : ℝ) : EReal) t.val (arg13.view.read (Elt Ideal) g13) := by
  obtain ⟨h0, h1, h2⟩ := coords_val t
  obtain ⟨k1, k2, k3⟩ := conds_val t
  -- the factors after the point
  obtain ⟨hβ, hα⟩ := Inv.after t hI H hR
  have h19 : ∀ (r : Fin 1024) (l : Fin 128), arg19.view.read (Elt Ideal) g19 (ix2 (⟨1024 * (grid0.coords t 2).val + r.val, beta_lt _ r⟩ : Fin 8192) l)
      = invN (Y (t.val / 128) (1024 * (grid0.coords t 2).val + r.val)) := fun r l =>
    hβ _ l (.inr (by show 1024 * (grid0.coords t 2).val + r.val < _; rw [h2]; omega))
  have h20 : ∀ c : Fin 512, arg20.view.read (Elt Ideal) g20 (ix2 (0 : Fin 8) c) = invN (X (t.val / 128) (512 * (grid0.coords t 1).val + c.val)) := fun c => by
    rw [h1]; exact hα 0 c
  -- the sums after the point
  have s21 : ∀ C : Fin 512, colSum arg21 g21 C = ∑ r ∈ Finset.range (1024 * (t.val % 8 + 1)), lossT X Y T B (t.val / 128) r (512 * (t.val / 8 % 16) + C.val) := fun C => by
    rw [H.sum21 hR h19 h20 C, h1, h2]
    exact sum_block _ _ k2 _ (fun r => lossT X Y T B (t.val / 128) r (512 * (t.val / 8 % 16) + C.val)) fun h => hI.s21 h C
  have s22 : ∀ C : Fin 512, colSum arg22 g22 C = ∑ r ∈ Finset.range (1024 * (t.val % 8 + 1)), dtT X Y T B (t.val / 128) r (512 * (t.val / 8 % 16) + C.val) := fun C => by
    rw [H.sum22 hR h19 h20 C, h1, h2]
    exact sum_block _ _ k2 _ (fun r => dtT X Y T B (t.val / 128) r (512 * (t.val / 8 % 16) + C.val)) fun h => hI.s22 h C
  have s23 : ∀ C : Fin 512, colSum arg23 g23 C = ∑ r ∈ Finset.range (1024 * (t.val % 8 + 1)), dbT X Y T B (t.val / 128) r (512 * (t.val / 8 % 16) + C.val) := fun C => by
    rw [H.sum23 hR h19 h20 C, h1, h2]
    exact sum_block _ _ k2 _ (fun r => dbT X Y T B (t.val / 128) r (512 * (t.val / 8 % 16) + C.val)) fun h => hI.s23 h C
  -- the point after, in the same row of blocks
  have hn : 0 < (t.val + 1) % 8 → (t.val + 1) % 8 = t.val % 8 + 1 ∧ (t.val + 1) / 8 % 16 = t.val / 8 % 16 ∧ (t.val + 1) / 128 = t.val / 128 := fun h => by omega
  refine ⟨⟨fun r l hr => ?_, fun h k C => ?_, fun h C => ?_, fun h C => ?_, fun h C => ?_⟩, fun h C => ?_, fun h C => ?_, fun h C => ?_⟩
  · have hlt := r.isLt
    have : (0 < t.val / 8 % 16 ∨ r.val < 1024 * (t.val % 8 + 1)) ∧ (t.val + 1) / 128 = t.val / 128 := by omega
    rw [this.2]
    exact hβ r l this.1
  · obtain ⟨e1, e2, e3⟩ := hn h
    rw [e2, e3]; exact hα k C
  · obtain ⟨e1, e2, e3⟩ := hn h
    rw [e1, e2, e3]; exact s21 C
  · obtain ⟨e1, e2, e3⟩ := hn h
    rw [e1, e2, e3]; exact s22 C
  · obtain ⟨e1, e2, e3⟩ := hn h
    rw [e1, e2, e3]; exact s23 C
  · rw [H.out9 (k3.mpr h) C, s21 C, h]
  · rw [H.out12 (k3.mpr h) C, s22 C, h]
  · rw [H.out13 (k3.mpr h) C, s23 C, h]

end Cert.Proof.KernelIdeal

end
-- ==== Proof.Ideal.Blocks.lean ====
/-
  The windows' blocks of the kernel, element by element, in the launch's memory.
-/
module

public import proofs.«01_k».proof.Proof.Ideal.Frame
public import proofs.«01_k».proof.Proof.Ideal.PointInv
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- Row `r` of batch `n` of an argument of codes, zero outside it. -/
def rowsOf (f : S2x8192x768.Idx → EReal) (n r : ℕ) (d : Fin 768) : EReal :=
  if h : n < 2 ∧ r < 8192 then f (ix3 (⟨n, h.1⟩ : Fin 2) (⟨r, h.2⟩ : Fin 8192) d) else 0

/-- The arguments of the launch. -/
def argX : ℕ → ℕ → Fin 768 → EReal := rowsOf (m ((c : Thread nD τ).loc main_arg0))
def argY : ℕ → ℕ → Fin 768 → EReal := rowsOf (m ((c : Thread nD τ).loc main_arg2))
/-- The scale of row `r` of batch `n` of `x`, zero outside it. -/
def argS (n r : ℕ) : EReal :=
  if h : n < 2 ∧ r < 8192 then m ((c : Thread nD τ).loc main_arg1) (ix2 (⟨n, h.1⟩ : Fin 2) (⟨r, h.2⟩ : Fin 8192)) else 0
def argT : EReal := m ((c : Thread nD τ).loc main_arg4) ix0
def argB : EReal := m ((c : Thread nD τ).loc main_arg5) ix0

theorem index0 : ∀ t : Fin grid0.N, win0_0.index t = ![0] := by decide +kernel
theorem index1 : ∀ t : Fin grid0.N, win0_1.index t = ![0] := by decide +kernel
theorem index2 : ∀ t : Fin grid0.N, win0_2.index t = ![t.val / 128, 0, t.val / 8 % 16] := by decide +kernel
theorem index7 : ∀ t : Fin grid0.N, win0_7.index t = ![t.val / 128, t.val / 8 % 16, 0] := by decide +kernel
theorem index4 : ∀ t : Fin grid0.N, win0_4.index t = ![t.val / 128, t.val / 8 % 16, 0] := by decide +kernel
theorem index5 : ∀ t : Fin grid0.N, win0_5.index t = ![t.val / 128, t.val % 8, 0] := by decide +kernel
theorem index6 : ∀ t : Fin grid0.N, win0_6.index t = ![t.val / 128, 0, t.val / 8 % 16] := by decide +kernel
theorem index9 : ∀ t : Fin grid0.N, win0_9.index t = ![t.val / 128, 0, t.val / 8 % 16] := by decide +kernel
theorem index10 : ∀ t : Fin grid0.N, win0_10.index t = ![t.val / 128, 0, t.val / 8 % 16] := by decide +kernel

theorem iblk4_at (t : Fin cfg0.N) (C : Fin 512) (d : Fin 768) : iblk m c 4 t (ix3 (0 : Fin 1) C d) = argX m c (t.val / 128) (512 * (grid0.coords t 1).val + C.val) d := by
  have ht : t.val < 256 := N_0 ▸ t.isLt
  have h : t.val / 128 < 2 ∧ 512 * (t.val / 8 % 16) + C.val < 8192 := by omega
  rw [(coords_val t).2.1, argX, rowsOf, dif_pos h]
  blk_simp [iblk]
  rw [← V_main_arg0 m c]
  refine congrArg (V m c main_arg0) (funext fun a => Fin.ext ?_)
  refine (win0_4.rect_emb_val t (ix3 (0 : Fin 1) C d) a).trans ?_
  rw [index4]
  fin_cases a
  · show t.val / 128 * 1 + 0 = t.val / 128
    omega
  · show t.val / 8 % 16 * 512 + C.val = 512 * (t.val / 8 % 16) + C.val
    omega
  · show 0 * 768 + d.val = d.val
    omega

theorem iblk5_at (t : Fin cfg0.N) (r : Fin 1024) (d : Fin 768) : iblk m c 5 t (ix3 (0 : Fin 1) r d) = argY m c (t.val / 128) (1024 * (grid0.coords t 2).val + r.val) d := by
  have ht : t.val < 256 := N_0 ▸ t.isLt
  have h : t.val / 128 < 2 ∧ 1024 * (t.val % 8) + r.val < 8192 := by omega
  rw [(coords_val t).2.2, argY, rowsOf, dif_pos h]
  blk_simp [iblk]
  rw [← V_main_arg2 m c]
  refine congrArg (V m c main_arg2) (funext fun a => Fin.ext ?_)
  refine (win0_5.rect_emb_val t (ix3 (0 : Fin 1) r d) a).trans ?_
  rw [index5]
  fin_cases a
  · show t.val / 128 * 1 + 0 = t.val / 128
    omega
  · show t.val % 8 * 1024 + r.val = 1024 * (t.val % 8) + r.val
    omega
  · show 0 * 768 + d.val = d.val
    omega

theorem V_v0 : V m c main_v0 (ix1 (0 : Fin 1)) = argT m c := by
  have e : V m c main_v0 = shapeCast S1 (m ((c : Thread nD τ).loc main_arg4)) shapeCasts_S_S1 := by
    show StableHlo.after hostOps0 _ (Proc.devRef .tc main_v0) = _
    after_results
    rfl
  rw [e]
  unfold argT
  pointwise
theorem V_v1 : V m c main_v1 (ix1 (0 : Fin 1)) = argB m c := by
  have e : V m c main_v1 = shapeCast S1 (m ((c : Thread nD τ).loc main_arg5)) shapeCasts_S_S1 := by
    show StableHlo.after hostOps0 _ (Proc.devRef .tc main_v1) = _
    after_results
    rfl
  rw [e]
  unfold argB
  pointwise

theorem iblk0_at (t : Fin cfg0.N) : iblk m c 0 t (ix1 (0 : Fin 1)) = argT m c := by
  rw [← V_v0 m c]
  blk_simp [iblk]
  refine congrArg (V m c main_v0) (funext fun a => Fin.ext ?_)
  refine (win0_0.rect_emb_val t (ix1 (0 : Fin 1)) a).trans ?_
  rw [index0]
  fin_cases a
  rfl
theorem iblk1_at (t : Fin cfg0.N) : iblk m c 1 t (ix1 (0 : Fin 1)) = argB m c := by
  rw [← V_v1 m c]
  blk_simp [iblk]
  refine congrArg (V m c main_v1) (funext fun a => Fin.ext ?_)
  refine (win0_1.rect_emb_val t (ix1 (0 : Fin 1)) a).trans ?_
  rw [index1]
  fin_cases a
  rfl

theorem cast_at (f : FVec Ideal S2x8192 .f32) (n : Fin 2) (C : Fin 8192) : shapeCast S2x1x8192 f shapeCasts_S2x8192_S2x1x8192 (ix3 n (0 : Fin 1) C) = f (ix2 n C) := by
  pointwise

/-- The scales of `x` as the kernel reads them. -/
theorem V_v2 (n : Fin 2) (C : Fin 8192) : V m c main_v2 (ix3 n (0 : Fin 1) C) = m ((c : Thread nD τ).loc main_arg1) (ix2 n C) := by
  have e : V m c main_v2 = shapeCast S2x1x8192 (m ((c : Thread nD τ).loc main_arg1)) shapeCasts_S2x8192_S2x1x8192 := by
    show StableHlo.after hostOps0 _ (Proc.devRef .tc main_v2) = _
    after_results
    rfl
  rw [e]
  exact cast_at _ n C

theorem iblk2_at (t : Fin cfg0.N) (C : Fin 512) : iblk m c 2 t (ix3 (0 : Fin 1) (0 : Fin 1) C) = argS m c (t.val / 128) (512 * (t.val / 8 % 16) + C.val) := by
  have ht : t.val < 256 := N_0 ▸ t.isLt
  have h : t.val / 128 < 2 ∧ 512 * (t.val / 8 % 16) + C.val < 8192 := by omega
  rw [argS, dif_pos h]
  blk_simp [iblk]
  rw [← V_v2 m c]
  refine congrArg (V m c main_v2) (funext fun a => Fin.ext ?_)
  refine (win0_2.rect_emb_val t (ix3 (0 : Fin 1) (0 : Fin 1) C) a).trans ?_
  rw [index2]
  fin_cases a
  · show t.val / 128 * 1 + 0 = t.val / 128
    omega
  · rfl
  · show t.val / 8 % 16 * 512 + C.val = 512 * (t.val / 8 % 16) + C.val
    omega

end Cert.Proof.KernelIdeal

end
-- ==== Proof.Ideal.PointXValue.lean ====
/-
  The gradient of `x` over the extended reals, at one element: the transposed rows of `y`, the factors of the matrix product, the product's
  step and the projection.
-/
module

public import proofs.«01_k».proof.Proof.Ideal.PointX
public import proofs.«01_k».proof.Proof.Ideal.PointInv

@[expose] public section

set_option maxRecDepth 16384

noncomputable section

namespace Cert.Proof.KernelIdeal

open Cert.KernelIdeal Cert.KernelIdeal.Gen
open Idealize.ShloMosaic

/-- The factor of a pair of rows in the matrix products. -/
def hG (x y : ℕ → Fin 768 → EReal) (t b : EReal) (r c : ℕ) : EReal := sG x y t b r c * (invN (y r) * (invN (x c) * (Ideal.exp t * (kL : EReal))))
/-- A term of the product for the gradient of `x`. -/
def gxT (x y : ℕ → Fin 768 → EReal) (t b : EReal) (d : Fin 768) (r c : ℕ) : EReal := y r d * hG x y t b r c

/-- The gradient of a row through its normalisation, from the codes and the scale, in the kernel's way. -/
def projK (x g : Fin 768 → EReal) (s : EReal) (d : Fin 768) : EReal :=
  (g d - x d * ((∑ e, x e * g e) * invN x * invN x))
    * (if ∀ d, x d = 0 then ((Real.log 2 * (8192 : ℝ)⁻¹ : ℝ) : EReal) else Ideal.div ((Real.log 2 * (8192 : ℝ)⁻¹ : ℝ) : EReal) s)

/-- The transposed codes. -/
theorem pay6_at (v : Vec Ideal S1x256x768 .fp8e4m3) (d : Fin 768) (r : Fin 256) : k0_pay6 v (ix2 d r) = v (ix3 0 r d) := by
  pointwise [k0_pay6, k0_pay4]

/-- The running product starts at zero. -/
theorem pay23_at (d : Fin 768) (c : Fin 512) : (k0_pay23 : FVec Ideal S768x512 .f32) (ix2 d c) = 0 := by
  pointwise [k0_pay23]

/-- The product's step. -/
theorem pay568_at (a : Vec Ideal S768x256 .f32) (u : Vec Ideal S768x1024 .bf16) (v : Vec Ideal S1024x256 .bf16) (d : Fin 768) (c : Fin 256) :
    k0_pay568 a u v (ix2 d c) = a (ix2 d c) + ∑ r : Fin 1024, u (ix2 d r) * v (ix2 r c) := by
  pointwise [k0_pay568]

theorem max_abs_zero (x : Fin 768 → EReal) : (Finset.univ : Finset (Fin 768)).fold max (⊥ : EReal) (fun d => max (x d) (-(x d))) = 0 ↔ ∀ d, x d = 0 := by
  constructor
  · intro h d
    have hd : max (x d) (-(x d)) ≤ 0 := by
      rw [← h]
      exact (Finset.le_fold_max _).2 (.inr ⟨d, Finset.mem_univ d, le_refl _⟩)
    have h1 := (max_le_iff.1 hd).1
    have h2 := (max_le_iff.1 hd).2
    exact le_antisymm h1 (by simpa using EReal.neg_le_neg_iff.2 h2)
  · intro h
    have : (fun d => max (x d) (-(x d))) = fun _ => (0 : EReal) := by funext d; rw [h]; simp
    rw [this]
    refine le_antisymm ?_ ?_
    · exact (Finset.fold_max_le _).2 ⟨bot_le, fun _ _ => le_refl _⟩
    · exact (Finset.le_fold_max _).2 (.inr ⟨0, Finset.mem_univ _, le_refl _⟩)

theorem ofBits_ninf : Ideal.ofBits .f32 0xFF800000#32 = ⊥ := by simp [Ideal.ofBits, Ideal.ieee]

/-- The projection. -/
theorem pay15_at (g : Vec Ideal S768x256 .f32) (x : Vec Ideal S1x256x768 .fp8e4m3) (a : Vec Ideal S1x256 .f32) (s : Vec Ideal S1x1x256 .f32) (c : Fin 256) (d : Fin 768)
    (ha : a (ix2 0 c) = invN (fun e => x (ix3 0 c e))) :
    k0_pay15 (k0_pay13 g) (k0_pay14 x) a s (ix3 0 c d) = projK (fun e => x (ix3 0 c e)) (fun e => g (ix2 e c)) (s (ix3 0 0 c)) d := by
  have h : (Named.named κ "ln_2_over_seq" 0x38B17218#32 : Ideal .f32) = ((Real.log 2 * (8192 : ℝ)⁻¹ : ℝ) : EReal) := by
    rw [IdealRules.named_const.ideal_named_scalar _ _ _ _ rfl]
  unfold projK
  beta_reduce
  pointwise [k0_pay15, k0_pay13, k0_pay14]
  rw [h, ha]
  congr 1
  have hm : (Finset.fold max (Ideal.ofBits FTy.f32 4286578688#32) (fun e => FloatOps.absf (F := Ideal) (φ := .f32) (x (ix3 0 c e))) Finset.univ = (0 : EReal)) ↔ ∀ d, x (ix3 0 c d) = 0 := by
    rw [ofBits_ninf]
    exact max_abs_zero fun e => x (ix3 0 c e)
  by_cases h0 : ∀ d, x (ix3 0 c d) = 0
  · rw [if_pos h0]; exact if_pos (hm.2 h0)
  · rw [if_neg h0]; exact if_neg fun e => h0 (hm.1 e)

/-! ## The factors of the matrix products -/

/-- The stores of a chunk's slabs, read back. -/
theorem hPieces_at (m : Memref sig .tc .vmem S1024x512 .bf16) (I : In Ideal) (c : ℕ) (hc : c < 2) (L : List (View.Piece (Elt Ideal) S1024x512 .bf16)) (f : BufTy.Contents (Elt Ideal) m.view.ty)
    (s : ℕ) (hs : s < 32) (r : Fin 32) (col : Fin 256) : ∀ (n : ℕ) (hn : n ≤ 32), s < n →
      m.view.read (Elt Ideal) (m.view.writes (Elt Ideal) f (hPieces I c hc L n hn)) (ix2 (⟨32 * s + r.val, by omega⟩ : Fin 1024) (⟨256 * c + col.val, by omega⟩ : Fin 512)) = I.out s hs (ix2 r col)
  | 0, _, h => absurd h (Nat.not_lt_zero _)
  | n + 1, hn, h => by
    unfold hPieces
    by_cases e : s = n
    · subst e
      refine View.read_writes_cons_unit_of_mem m.view _ _ _ _ _ (ix2 r col) rfl ?_
      intro a
      fin_cases a <;> rfl
    · refine (View.read_writes_cons_unit_of_not_mem m.view _ _ _ _ _ rfl (0 : Fin 2) (.inl ?_)).trans (hPieces_at m I c hc L f s hs r col n _ (by omega))
      show 32 * s + r.val < 32 * n
      omega

theorem out_at (I : In Ideal) (s : ℕ) (hs : s < 32) (r : Fin 32) (c : Fin 256) : I.out s hs (ix2 r c) = I.sg s hs (ix2 r c) * slabF I.A (I.bt s hs) (ix2 r c) := by
  pointwise [In.out]

/-- The factor of a pair at an element. -/
theorem slabF_at (A : FVec Ideal S1x256 .f32) (bt : Vec Ideal S32x128 .f32) (r : Fin 32) (c : Fin 256) :
    slabF A bt (ix2 r c) = bt (ix2 r ⟨c.val % 128, Nat.mod_lt _ (by norm_num)⟩) * A (ix2 0 c) := by
  pointwise [slabF]
  have h := c.isLt
  rcases Nat.lt_or_ge c.val 128 with h1 | h1
  · rw [dif_pos h1, show (⟨c.val % 128, Nat.mod_lt _ (by norm_num)⟩ : Fin 128) = ⟨c.val, h1⟩ from Fin.ext (Nat.mod_eq_of_lt h1)]
  · rw [dif_neg (Nat.not_lt.mpr h1), show (⟨c.val % 128, Nat.mod_lt _ (by norm_num)⟩ : Fin 128) = ⟨c.val - 128, by omega⟩ from Fin.ext (by show c.val % 128 = c.val - 128; omega)]

/-! ## The point -/

variable {i : grid0.Coords} {arg3 : Memref sig .tc .smem S1 .f32} {arg4 : Memref sig .tc .smem S1 .f32} {arg5 : Memref sig .tc .vmem S1x1x512 .f32} {arg7 : Memref sig .tc .vmem S1x512x768 .fp8e4m3} {arg8 : Memref sig .tc .vmem S1x1024x768 .fp8e4m3} {arg10 : Memref sig .tc .vmem S1x512x768 .bf16} {arg14 : Memref sig .tc .vmem S2x1024x256 .f32} {arg15 : Memref sig .tc .vmem S1024x512 .bf16} {arg16 : Memref sig .tc .vmem S768x512 .f32} {arg18 : Memref sig .tc .vmem S768x8192 .bf16} {arg19 : Memref sig .tc .vmem S8192x128 .f32} {arg20 : Memref sig .tc .vmem S8x512 .f32}
  {f3 : BufTy.Contents (Elt Ideal) arg3.view.ty} {f4 : BufTy.Contents (Elt Ideal) arg4.view.ty} {f5 : BufTy.Contents (Elt Ideal) arg5.view.ty} {f7 : BufTy.Contents (Elt Ideal) arg7.view.ty} {f8 : BufTy.Contents (Elt Ideal) arg8.view.ty}
  {f10 g10 : BufTy.Contents (Elt Ideal) arg10.view.ty} {f16 g16 : BufTy.Contents (Elt Ideal) arg16.view.ty} {f18 g18 : BufTy.Contents (Elt Ideal) arg18.view.ty}
  {g19 : BufTy.Contents (Elt Ideal) arg19.view.ty} {g20 : BufTy.Contents (Elt Ideal) arg20.view.ty}
  {x y : ℕ → Fin 768 → EReal} {t b : EReal} (hR : Reads i arg3 arg4 arg7 arg8 f3 f4 f7 f8 x y t b)
  (h19 : ∀ (r : Fin 1024) (l : Fin 128), arg19.view.read (Elt Ideal) g19 (ix2 (⟨1024 * (i 2).val + r.val, beta_lt i r⟩ : Fin 8192) l) = invN (y (1024 * (i 2).val + r.val)))
  (h20 : ∀ c : Fin 512, arg20.view.read (Elt Ideal) g20 (ix2 (0 : Fin 8) c) = invN (x (512 * (i 1).val + c.val)))

section
include hR h19 h20

/-- A factor of the point. -/
theorem ptF (c : ℕ) (hc : c < 2) (s : ℕ) (hs : s < 32) (r : Fin 32) (col : Fin 256) :
    slabF (ptIn i arg3 arg4 arg7 arg8 arg14 arg19 arg20 f3 f4 f7 f8 c hc g19 g20).A ((ptIn i arg3 arg4 arg7 arg8 arg14 arg19 arg20 f3 f4 f7 f8 c hc g19 g20).bt s hs) (ix2 r col)
      = invN (y (1024 * (i 2).val + 32 * s + r.val)) * (invN (x (512 * (i 1).val + 256 * c + col.val)) * (Ideal.exp t * (kL : EReal))) := by
  have hA : (ptIn i arg3 arg4 arg7 arg8 arg14 arg19 arg20 f3 f4 f7 f8 c hc g19 g20).A (ix2 0 col)
      = invN (x (512 * (i 1).val + 256 * c + col.val)) * (Ideal.exp t * (kL : EReal)) := by
    show mulf _ _ (ix2 0 col) = _
    rw [mulf_apply, pay27_at, readAt_at arg20.view g20 _ _ (ix2 (0 : Fin 8) (⟨256 * c + col.val, by omega⟩ : Fin 512)) rfl ?_, h20,
      readAt_at arg3.view f3 _ _ (ix1 (0 : Fin 1)) rfl ?_, hR.ht, Nat.add_assoc]
    · rfl
    · intro a; fin_cases a; rfl
    · intro a; fin_cases a <;> rfl
  have hB : (ptIn i arg3 arg4 arg7 arg8 arg14 arg19 arg20 f3 f4 f7 f8 c hc g19 g20).bt s hs (ix2 r ⟨col.val % 128, Nat.mod_lt _ (by norm_num)⟩)
      = invN (y (1024 * (i 2).val + 32 * s + r.val)) := by
    have := (i 2).isLt
    change _ < 8 at this
    show View.readAt (Elt Ideal) arg19.view _ g19 _ = _
    rw [readAt_at arg19.view g19 _ _ (ix2 (⟨1024 * (i 2).val + (⟨32 * s + r.val, by omega⟩ : Fin 1024).val, by show 1024 * (i 2).val + (32 * s + r.val) < 8192; omega⟩ : Fin 8192) (⟨col.val % 128, Nat.mod_lt _ (by norm_num)⟩ : Fin 128)) (k0_off5_eq i ⟨s, hs⟩) (fun a => by
      fin_cases a
      · exact (Nat.add_assoc _ _ _).symm
      · exact (Nat.zero_add _).symm), h19, ← Nat.add_assoc]
  rw [slabF_at, hA, hB]

/-- What a slab leaves for the matrix products. -/
theorem ptOut (c : ℕ) (hc : c < 2) (s : ℕ) (hs : s < 32) (r : Fin 32) (col : Fin 256) :
    (ptIn i arg3 arg4 arg7 arg8 arg14 arg19 arg20 f3 f4 f7 f8 c hc g19 g20).out s hs (ix2 r col)
      = hG x y t b (1024 * (i 2).val + (32 * s + r.val)) (512 * (i 1).val + (256 * c + col.val)) := by
  rw [out_at, ptS arg14 arg19 arg20 hR g19 g20 h19 h20 c hc s hs r col, ptF hR h19 h20 c hc s hs r col, ← Nat.add_assoc, ← Nat.add_assoc]
  rfl

/-- A chunk of the factors, read back. -/
theorem hChunk_at (c : ℕ) (hc : c < 2) (R : Fin 1024) (col : Fin 256) :
    hChunk i arg3 arg4 arg7 arg8 arg14 arg15 arg19 arg20 f3 f4 f7 f8 c hc g19 g20 (ix2 R col)
      = hG x y t b (1024 * (i 2).val + R.val) (512 * (i 1).val + (256 * c + col.val)) := by
  obtain ⟨s, hs, r, rfl⟩ : ∃ (s : ℕ) (hs : s < 32) (r : Fin 32), R = (⟨32 * s + r.val, by omega⟩ : Fin 1024) :=
    ⟨R.val / 32, by omega, ⟨R.val % 32, Nat.mod_lt _ (by norm_num)⟩, Fin.ext (Nat.div_add_mod _ _).symm⟩
  unfold hChunk View.readCov
  rw [readAt_at arg15.view _ _ _ (ix2 (⟨32 * s + r.val, by omega⟩ : Fin 1024) (⟨256 * c + col.val, by omega⟩ : Fin 512)) rfl (fun a => by
    fin_cases a
    · exact (Nat.zero_add _).symm
    · rfl)]
  obtain rfl | rfl : c = 0 ∨ c = 1 := by omega
  · exact (hPieces_at arg15 _ 0 hc _ _ s hs r col 32 (Nat.le_refl 32) hs).trans (ptOut hR h19 h20 0 hc s hs r col)
  · exact (hPieces_at arg15 _ 1 hc _ _ s hs r col 32 (Nat.le_refl 32) hs).trans (ptOut hR h19 h20 1 hc s hs r col)

/-- A chunk of the running product after the point. -/
theorem gxChunk_at (z16 : BufTy.Contents (Elt Ideal) arg16.view.ty)
    (h18 : ∀ (r : Fin 1024) (d : Fin 768), arg18.view.read (Elt Ideal) g18 (ix2 d (⟨1024 * (i 2).val + r.val, beta_lt i r⟩ : Fin 8192)) = y (1024 * (i 2).val + r.val) d)
    (c : ℕ) (hc : c < 2) (d : Fin 768) (col : Fin 256) :
    gxChunk i arg3 arg4 arg7 arg8 arg14 arg15 arg16 arg18 arg19 arg20 f3 f4 f7 f8 c hc z16 g18 g19 g20 (ix2 d col)
      = arg16.view.read (Elt Ideal) z16 (ix2 d (⟨256 * c + col.val, by omega⟩ : Fin 512))
        + ∑ r ∈ Finset.range 1024, gxT x y t b d (1024 * (i 2).val + r) (512 * (i 1).val + (256 * c + col.val)) := by
  unfold gxChunk
  rw [pay568_at, readAt_at arg16.view z16 _ _ (ix2 d (⟨256 * c + col.val, by omega⟩ : Fin 512)) rfl (fun a => by
    fin_cases a
    · exact (Nat.zero_add _).symm
    · rfl), Finset.sum_range]
  refine congrArg (_ + ·) (Finset.sum_congr rfl fun r _ => ?_)
  rw [hChunk_at hR h19 h20 c hc r col]
  refine congrArg (· * _) ?_
  rw [← h18 r d]
  refine readAt_at _ _ _ _ _ (k0_off6_eq i) fun a => ?_
  fin_cases a
  · exact (Nat.zero_add _).symm
  · rfl

end

/-- The two chunks of the running product, read back. -/
theorem gxTwo_at (f : BufTy.Contents (Elt Ideal) arg16.view.ty) (st : (c : ℕ) → c < 2 → FVec Ideal S768x256 .f32) (c : ℕ) (hc : c < 2) (d : Fin 768) (col : Fin 256) :
    arg16.view.read (Elt Ideal) (arg16.view.writes (Elt Ideal) f (gxTwo (st 0 (by omega)) (st 1 (by omega)))) (ix2 d (⟨256 * c + col.val, by omega⟩ : Fin 512)) = st c hc (ix2 d col) := by
  unfold gxTwo
  obtain rfl | rfl : c = 1 ∨ c = 0 := by omega
  · refine View.read_writes_cons_unit_of_mem arg16.view _ _ _ _ _ (ix2 d col) rfl ?_
    intro a
    fin_cases a
    · exact (Nat.zero_add _).symm
    · rfl
  · refine (View.read_writes_cons_unit_of_not_mem arg16.view _ _ _ _ _ rfl (1 : Fin 2) (.inl ?_)).trans ?_
    · show 256 * 0 + col.val < 256
      omega
    refine View.read_writes_cons_unit_of_mem arg16.view _ _ _ _ _ (ix2 d col) rfl ?_
    intro a
    fin_cases a
    · exact (Nat.zero_add _).symm
    · rfl

/-- The running product before the point's step. -/
theorem zeroed16_at (f : BufTy.Contents (Elt Ideal) arg16.view.ty) (d : Fin 768) (C : Fin 512) :
    arg16.view.read (Elt Ideal) (zeroed16 i arg16 f) (ix2 d C) = if J0 i then 0 else arg16.view.read (Elt Ideal) f (ix2 d C) := by
  unfold zeroed16
  split_ifs with h
  · refine (View.read_writes_cons_unit_of_mem arg16.view _ _ _ _ _ (ix2 d C) rfl ?_).trans (pay23_at d C)
    intro a
    fin_cases a <;> exact (Nat.zero_add _).symm
  · rfl

variable (H : GxFacts i arg3 arg4 arg5 arg7 arg8 arg10 arg14 arg15 arg16 arg18 arg19 arg20 f3 f4 f5 f7 f8 f10 g10 f16 g16 f18 g18 g19 g20)
include H hR

/-- On the first row of blocks the block's rows of `y` are transposed. -/
theorem GxFacts.yt_new (h : k0_cond1 i = 1#1) (r : Fin 1024) (d : Fin 768) :
    arg18.view.read (Elt Ideal) g18 (ix2 d (⟨1024 * (i 2).val + r.val, beta_lt i r⟩ : Fin 8192)) = y (1024 * (i 2).val + r.val) d := by
  have hT : k0_t1_loop.trips = 4 := by decide +kernel
  rw [H.h18 h]
  refine (View.read_tilePieces arg18.view f18 _ _ _ _ _ _ _ (⟨r.val / 256, by omega⟩ : Fin k0_t1_loop.trips) (by show r.val / 256 < _; omega)
    (ix2 d (⟨r.val % 256, Nat.mod_lt _ (by norm_num)⟩ : Fin 256)) ?_ (1 : Fin 2) ?_).trans ?_
  · intro a
    rw [k0_off3_eq]
    fin_cases a
    · exact (Nat.zero_add _).symm
    · show 1024 * (i 2).val + r.val = 1024 * (i 2).val + 256 * (r.val / 256) + r.val % 256
      omega
  · intro i' hi'
    rw [k0_off3_eq]
    show 1024 * (i 2).val + r.val < 1024 * (i 2).val + 256 * i'.val ∨ 1024 * (i 2).val + 256 * i'.val + 256 ≤ 1024 * (i 2).val + r.val
    have : i'.val ≠ r.val / 256 := fun e => hi' (Fin.ext e)
    omega
  · show k0_pay6 _ (ix2 _ _) = _
    rw [pay6_at, ← hR.hy]
    refine readAt_at _ _ _ _ _ (k0_off1_eq _) fun a => ?_
    fin_cases a
    · rfl
    · show r.val = 256 * (r.val / 256) + r.val % 256
      omega
    · exact (Nat.zero_add _).symm

omit hR in
/-- The other rows stay. -/
theorem GxFacts.yt_old (r : Fin 8192) (hr : r.val < 1024 * (i 2).val) (d : Fin 768) :
    arg18.view.read (Elt Ideal) g18 (ix2 d r) = arg18.view.read (Elt Ideal) f18 (ix2 d r) := by
  by_cases h : k0_cond1 i = 1#1
  · rw [H.h18 h]
    refine View.read_tilePieces_miss arg18.view f18 _ _ _ _ _ _ _ (1 : Fin 2) fun i' _ => ?_
    rw [k0_off3_eq]
    left
    show r.val < 1024 * (i 2).val + 256 * i'.val
    omega
  · rw [H.h18' h]

include h19 h20

/-- The running product after the point. -/
theorem GxFacts.sum16 (h18 : ∀ (r : Fin 1024) (d : Fin 768), arg18.view.read (Elt Ideal) g18 (ix2 d (⟨1024 * (i 2).val + r.val, beta_lt i r⟩ : Fin 8192)) = y (1024 * (i 2).val + r.val) d)
    (d : Fin 768) (C : Fin 512) : arg16.view.read (Elt Ideal) g16 (ix2 d C) = (if J0 i then 0 else arg16.view.read (Elt Ideal) f16 (ix2 d C))
      + ∑ r ∈ Finset.range 1024, gxT x y t b d (1024 * (i 2).val + r) (512 * (i 1).val + C.val) := by
  obtain ⟨c, hc, col, rfl⟩ : ∃ (c : ℕ) (hc : c < 2) (col : Fin 256), C = (⟨256 * c + col.val, by omega⟩ : Fin 512) :=
    ⟨C.val / 256, by omega, ⟨C.val % 256, Nat.mod_lt _ (by norm_num)⟩, Fin.ext (Nat.div_add_mod _ _).symm⟩
  rw [H.h16, ← zeroed16_at]
  exact (gxTwo_at _ (fun c hc => gxChunk i arg3 arg4 arg7 arg8 arg14 arg15 arg16 arg18 arg19 arg20 f3 f4 f7 f8 c hc (zeroed16 i arg16 f16) g18 g19 g20) c hc d col).trans
    (gxChunk_at hR h19 h20 _ h18 c hc d col)

omit h19

/-- A chunk of the gradient. -/
theorem dxChunk_at (c : ℕ) (hc : c < 2) (a : FVec Ideal S768x256 .f32) (col : Fin 256) (d : Fin 768) :
    dxChunk arg5 arg7 arg20 f5 f7 c hc a g20 (ix3 (0 : Fin 1) col d)
      = projK (x (512 * (i 1).val + (256 * c + col.val))) (fun e => a (ix2 e col)) (arg5.view.read (Elt Ideal) f5 (ix3 (0 : Fin 1) (0 : Fin 1) (⟨256 * c + col.val, by omega⟩ : Fin 512))) d := by
  have hx : (fun e => xRows arg7 f7 c hc (ix3 0 col e)) = x (512 * (i 1).val + (256 * c + col.val)) := funext fun e => (xRows_at arg7 f7 c hc col e).trans (hR.hx _ e)
  unfold dxChunk
  rw [pay15_at _ _ _ _ _ _ ?_, hx]
  · refine congrArg (fun q => projK _ _ q d) ?_
    refine readAt_at _ _ _ _ _ rfl fun a => ?_
    fin_cases a <;> rfl
  · rw [hx, ← h20 (⟨256 * c + col.val, by omega⟩ : Fin 512)]
    refine readAt_at _ _ _ _ _ rfl fun a => ?_
    fin_cases a <;> rfl

/-- The gradient stored at the last point of a row of blocks. -/
theorem GxFacts.out10 (h : k0_cond3 i = 1#1) (C : Fin 512) (d : Fin 768) :
    arg10.view.read (Elt Ideal) g10 (ix3 (0 : Fin 1) C d)
      = projK (x (512 * (i 1).val + C.val)) (fun e => arg16.view.read (Elt Ideal) g16 (ix2 e C)) (arg5.view.read (Elt Ideal) f5 (ix3 (0 : Fin 1) (0 : Fin 1) C)) d := by
  obtain ⟨c, hc, col, rfl⟩ : ∃ (c : ℕ) (hc : c < 2) (col : Fin 256), C = (⟨256 * c + col.val, by omega⟩ : Fin 512) :=
    ⟨C.val / 256, by omega, ⟨C.val % 256, Nat.mod_lt _ (by norm_num)⟩, Fin.ext (Nat.div_add_mod _ _).symm⟩
  have hg : ∀ (c : ℕ) (hc : c < 2) (col : Fin 256) (e : Fin 768),
      gxRead arg16 c hc (gxChunk i arg3 arg4 arg7 arg8 arg14 arg15 arg16 arg18 arg19 arg20 f3 f4 f7 f8 0 (by omega) (zeroed16 i arg16 f16) g18 g19 g20)
          (gxChunk i arg3 arg4 arg7 arg8 arg14 arg15 arg16 arg18 arg19 arg20 f3 f4 f7 f8 1 (by omega) (zeroed16 i arg16 f16) g18 g19 g20) (ix2 e col)
        = arg16.view.read (Elt Ideal) g16 (ix2 e (⟨256 * c + col.val, by omega⟩ : Fin 512)) := fun c hc col e => by
    rw [H.h16]
    refine Eq.trans ?_ (gxTwo_at _ (fun c hc => gxChunk i arg3 arg4 arg7 arg8 arg14 arg15 arg16 arg18 arg19 arg20 f3 f4 f7 f8 c hc (zeroed16 i arg16 f16) g18 g19 g20) c hc e col).symm
    unfold gxRead View.readCov
    rw [readAt_at arg16.view _ _ _ (ix2 e (⟨256 * c + col.val, by omega⟩ : Fin 512)) rfl (fun a => by
      fin_cases a
      · exact (Nat.zero_add _).symm
      · rfl)]
    exact gxTwo_at _ (fun c hc => gxChunk i arg3 arg4 arg7 arg8 arg14 arg15 arg16 arg18 arg19 arg20 f3 f4 f7 f8 c hc (zeroed16 i arg16 f16) g18 g19 g20) c hc e col
  rw [H.h10 h]
  obtain rfl | rfl : c = 1 ∨ c = 0 := by omega
  · refine (View.read_writes_cons_unit_of_mem arg10.view _ _ _ _ _ (ix3 (0 : Fin 1) col d) rfl ?_).trans ?_
    · intro a
      fin_cases a
      · rfl
      · rfl
      · exact (Nat.zero_add _).symm
    · rw [dxChunk_at hR h20 H]
      exact congrArg (fun q => projK _ q _ d) (funext fun e => hg 1 _ col e)
  · refine (View.read_writes_cons_unit_of_not_mem arg10.view _ _ _ _ _ rfl (1 : Fin 3) (.inl ?_)).trans ?_
    · show 256 * 0 + col.val < 256
      omega
    refine (View.read_writes_cons_unit_of_mem arg10.view _ _ _ _ _ (ix3 (0 : Fin 1) col d) rfl ?_).trans ?_
    · intro a
      fin_cases a
      · rfl
      · rfl
      · exact (Nat.zero_add _).symm
    · rw [dxChunk_at hR h20 H]
      exact congrArg (fun q => projK _ q _ d) (funext fun e => hg 0 _ col e)

end Cert.Proof.KernelIdeal

end
-- ==== Proof.Ideal.PointXInv.lean ====
/-
  What the transposed rows of `y` and the running product hold before each grid point, and that every point keeps it.
-/
module

public import proofs.«01_k».proof.Proof.Ideal.PointXValue

@[expose] public section

set_option maxRecDepth 16384

noncomputable section

namespace Cert.Proof.KernelIdeal

open Cert.KernelIdeal Cert.KernelIdeal.Gen
open Idealize.ShloMosaic

variable (X Y : ℕ → ℕ → Fin 768 → EReal) (T B : EReal) (S : ℕ → ℕ → EReal)
variable {arg3 : Memref sig .tc .smem S1 .f32} {arg4 : Memref sig .tc .smem S1 .f32} {arg5 : Memref sig .tc .vmem S1x1x512 .f32} {arg7 : Memref sig .tc .vmem S1x512x768 .fp8e4m3} {arg8 : Memref sig .tc .vmem S1x1024x768 .fp8e4m3} {arg9 arg12 arg13 : Memref sig .tc .vmem S1x1x512 .f32} {arg10 : Memref sig .tc .vmem S1x512x768 .bf16} {arg14 : Memref sig .tc .vmem S2x1024x256 .f32} {arg15 : Memref sig .tc .vmem S1024x512 .bf16} (arg16 : Memref sig .tc .vmem S768x512 .f32) (arg18 : Memref sig .tc .vmem S768x8192 .bf16) {arg19 : Memref sig .tc .vmem S8192x128 .f32} {arg20 arg21 arg22 arg23 : Memref sig .tc .vmem S8x512 .f32}

/-- What the two buffers hold before point `t`. -/
structure InvX (t : ℕ) (f16 : BufTy.Contents (Elt Ideal) arg16.view.ty) (f18 : BufTy.Contents (Elt Ideal) arg18.view.ty) : Prop where
  yt : ∀ (r : Fin 8192) (d : Fin 768), (0 < t / 8 % 16 ∨ r.val < 1024 * (t % 8)) → arg18.view.read (Elt Ideal) f18 (ix2 d r) = Y (t / 128) r.val d
  gx : 0 < t % 8 → ∀ (d : Fin 768) (C : Fin 512), arg16.view.read (Elt Ideal) f16 (ix2 d C)
    = ∑ r ∈ Finset.range (1024 * (t % 8)), gxT (X (t / 128)) (Y (t / 128)) T B d r (512 * (t / 8 % 16) + C.val)

/-- Before the first point nothing is asked. -/
theorem InvX.zero (f16 : BufTy.Contents (Elt Ideal) arg16.view.ty) (f18 : BufTy.Contents (Elt Ideal) arg18.view.ty) : InvX X Y T B arg16 arg18 0 f16 f18 :=
  ⟨fun r _ h => by simp at h, fun h => absurd h (by decide)⟩

/-- The block of the gradient of `x` after point `t`: at the last point of a row of blocks, the projection of the whole products. -/
def DxOut (t : ℕ) (x : S1x512x768.Idx → EReal) : Prop :=
  t % 8 = 7 → ∀ (C : Fin 512) (d : Fin 768), x (ix3 (0 : Fin 1) C d)
    = projK (X (t / 128) (512 * (t / 8 % 16) + C.val)) (fun e => ∑ r ∈ Finset.range 8192, gxT (X (t / 128)) (Y (t / 128)) T B e r (512 * (t / 8 % 16) + C.val))
        (S (t / 128) (512 * (t / 8 % 16) + C.val)) d

variable {X Y T B S arg16 arg18}
variable {f3 : BufTy.Contents (Elt Ideal) arg3.view.ty} {f4 : BufTy.Contents (Elt Ideal) arg4.view.ty} {f5 : BufTy.Contents (Elt Ideal) arg5.view.ty} {f7 : BufTy.Contents (Elt Ideal) arg7.view.ty} {f8 : BufTy.Contents (Elt Ideal) arg8.view.ty}
  {f9 g9 : BufTy.Contents (Elt Ideal) arg9.view.ty} {f10 g10 : BufTy.Contents (Elt Ideal) arg10.view.ty} {f12 g12 : BufTy.Contents (Elt Ideal) arg12.view.ty} {f13 g13 : BufTy.Contents (Elt Ideal) arg13.view.ty}
  {f16 g16 : BufTy.Contents (Elt Ideal) arg16.view.ty} {f18 g18 : BufTy.Contents (Elt Ideal) arg18.view.ty}
  {f19 g19 : BufTy.Contents (Elt Ideal) arg19.view.ty} {f20 g20 : BufTy.Contents (Elt Ideal) arg20.view.ty}
  {f21 g21 : BufTy.Contents (Elt Ideal) arg21.view.ty} {f22 g22 : BufTy.Contents (Elt Ideal) arg22.view.ty} {f23 g23 : BufTy.Contents (Elt Ideal) arg23.view.ty}

/-- Every point keeps what the two buffers hold, and the last of a row of blocks stores the gradient of its rows of `x`. -/
theorem InvX.step (t : Fin grid0.N) (hX : InvX X Y T B arg16 arg18 t.val f16 f18)
    (hI : Inv X Y T B arg19 arg20 arg21 arg22 arg23 t.val f19 f20 f21 f22 f23)
    (H : RowFacts (grid0.coords t) arg3 arg4 arg7 arg8 arg9 arg12 arg13 arg14 arg19 arg20 arg21 arg22 arg23 f3 f4 f7 f8 f9 g9 f12 g12 f13 g13 f19 g19 f20 g20 f21 g21 f22 g22 f23 g23)
    (G : GxFacts (grid0.coords t) arg3 arg4 arg5 arg7 arg8 arg10 arg14 arg15 arg16 arg18 arg19 arg20 f3 f4 f5 f7 f8 f10 g10 f16 g16 f18 g18 g19 g20)
    (hR : Reads (grid0.coords t) arg3 arg4 arg7 arg8 f3 f4 f7 f8 (X (t.val / 128)) (Y (t.val / 128)) T B)
    (hS : ∀ C : Fin 512, arg5.view.read (Elt Ideal) f5 (ix3 (0 : Fin 1) (0 : Fin 1) C) = S (t.val / 128) (512 * (t.val / 8 % 16) + C.val)) :
    InvX X Y T B arg16 arg18 (t.val + 1) g16 g18 ∧ DxOut X Y T B S t.val (arg10.view.read (Elt Ideal) g10) := by
  obtain ⟨h0, h1, h2⟩ := coords_val t
  obtain ⟨k1, k2, k3⟩ := conds_val t
  obtain ⟨hβ, hα⟩ := Inv.after t hI H hR
  have h19 : ∀ (r : Fin 1024) (l : Fin 128), arg19.view.read (Elt Ideal) g19 (ix2 (⟨1024 * (grid0.coords t 2).val + r.val, beta_lt _ r⟩ : Fin 8192) l)
      = invN (Y (t.val / 128) (1024 * (grid0.coords t 2).val + r.val)) := fun r l =>
    hβ _ l (.inr (by show 1024 * (grid0.coords t 2).val + r.val < _; rw [h2]; omega))
  have h20 : ∀ c : Fin 512, arg20.view.read (Elt Ideal) g20 (ix2 (0 : Fin 8) c) = invN (X (t.val / 128) (512 * (grid0.coords t 1).val + c.val)) := fun c => by
    rw [h1]; exact hα 0 c
  have hyt : ∀ (r : Fin 8192) (d : Fin 768), (0 < t.val / 8 % 16 ∨ r.val < 1024 * (t.val % 8 + 1)) → arg18.view.read (Elt Ideal) g18 (ix2 d r) = Y (t.val / 128) r.val d := by
    intro r d hr
    by_cases hi : t.val / 8 % 16 = 0
    · by_cases hlt : r.val < 1024 * (t.val % 8)
      · rw [G.yt_old r (by rw [h2]; exact hlt) d]
        exact hX.yt r d (.inr hlt)
      · have hr' : r.val < 1024 * (t.val % 8 + 1) := by omega
        have e := G.yt_new hR (k1.mpr hi) (⟨r.val - 1024 * (t.val % 8), by omega⟩ : Fin 1024) d
        have hv : 1024 * (grid0.coords t 2).val + (r.val - 1024 * (t.val % 8)) = r.val := by rw [h2]; omega
        rw [show r = (⟨1024 * (grid0.coords t 2).val + (⟨r.val - 1024 * (t.val % 8), by omega⟩ : Fin 1024).val, beta_lt _ _⟩ : Fin 8192) from Fin.ext hv.symm]
        exact e
    · rw [G.h18' fun h => hi (k1.mp h)]
      exact hX.yt r d (.inl (Nat.pos_of_ne_zero hi))
  have h18 : ∀ (r : Fin 1024) (d : Fin 768), arg18.view.read (Elt Ideal) g18 (ix2 d (⟨1024 * (grid0.coords t 2).val + r.val, beta_lt _ r⟩ : Fin 8192))
      = Y (t.val / 128) (1024 * (grid0.coords t 2).val + r.val) d := fun r d =>
    hyt _ d (.inr (by show 1024 * (grid0.coords t 2).val + r.val < _; rw [h2]; omega))
  have hgx : ∀ (d : Fin 768) (C : Fin 512), arg16.view.read (Elt Ideal) g16 (ix2 d C)
      = ∑ r ∈ Finset.range (1024 * (t.val % 8 + 1)), gxT (X (t.val / 128)) (Y (t.val / 128)) T B d r (512 * (t.val / 8 % 16) + C.val) := fun d C => by
    rw [G.sum16 hR h19 h20 h18 d C, h1, h2]
    exact sum_block _ _ k2 _ (fun r => gxT (X (t.val / 128)) (Y (t.val / 128)) T B d r (512 * (t.val / 8 % 16) + C.val)) fun h => hX.gx h d C
  refine ⟨⟨fun r d hr => ?_, fun h d C => ?_⟩, fun h C d => ?_⟩
  · have hlt := r.isLt
    have : (0 < t.val / 8 % 16 ∨ r.val < 1024 * (t.val % 8 + 1)) ∧ (t.val + 1) / 128 = t.val / 128 := by omega
    rw [this.2]
    exact hyt r d this.1
  · have e : (t.val + 1) % 8 = t.val % 8 + 1 ∧ (t.val + 1) / 8 % 16 = t.val / 8 % 16 ∧ (t.val + 1) / 128 = t.val / 128 := by omega
    rw [e.1, e.2.1, e.2.2]; exact hgx d C
  · rw [G.out10 hR h20 (k3.mpr h) C d, hS, h1]
    exact congrArg (fun q => projK _ q _ d) (funext fun e => by rw [hgx e C, h])

end Cert.Proof.KernelIdeal

end
-- ==== Proof.Ideal.Track.lean ====
/-
  The kernel's run with its carried buffers tracked: every point keeps `Inv` and `InvX`, the blocks of the three row results that
  are written back hold the whole sums, and those of the gradient of `x` its projection.
-/
module

public import proofs.«01_k».proof.Proof.Ideal.Blocks
public import proofs.«01_k».proof.Proof.Ideal.PointXInv
public import Idealize.ShloMosaic.Lib.Pipeline.DatRel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

local notation "𝕄" => MT nD τ sig Unit (Elt Ideal) ℕ (UR sig nD τ) ℕ

variable (m : (ℓ : Loc nD τ sig) → Buf (Elt Ideal) ℓ) (ρ : Dev nD → PrngReg)

/-- The seven carried buffers before point `t`. -/
def carried (c : Dev nD) (t : ℕ) : sProp 𝕄 :=
  iprop(∃ f16 f18 f19 f20 f21 f22 f23, ⌜Inv (argX m c) (argY m c) (argT m c) (argB m c) (Memref.whole cc0_scratch5) (Memref.whole cc0_scratch6) (Memref.whole cc0_scratch7) (Memref.whole cc0_scratch8) (Memref.whole cc0_scratch9) t f19 f20 f21 f22 f23
      ∧ InvX (argX m c) (argY m c) (argT m c) (argB m c) (Memref.whole cc0_scratch2) (Memref.whole cc0_scratch4) t f16 f18⌝ ∗ held c (Memref.whole cc0_scratch2) f16 ∗ held c (Memref.whole cc0_scratch4) f18 ∗ held c (Memref.whole cc0_scratch5) f19 ∗ held c (Memref.whole cc0_scratch6) f20 ∗ held c (Memref.whole cc0_scratch7) f21 ∗ held c (Memref.whole cc0_scratch8) f22 ∗ held c (Memref.whole cc0_scratch9) f23)

/-- The scratch and the generator before point `t`. -/
def trackΦ (c : Dev nD) (t : ℕ) : sProp 𝕄 :=
  iprop(((∃ f, held c (Memref.whole cc0_scratch0) f) ∗ (∃ f, held c (Memref.whole cc0_scratch1) f) ∗ (∃ f, held c (Memref.whole cc0_scratch3) f) ∗ carried m c t) ∗ ∃ r, prngReg c r)

/-- The pipeline's data, the scratch tracked. -/
def tdats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ t := trackΦ m c t.val
  q _ := fullShare
  owed _ := 0

/-- What the body leaves in the results' windows at the last point of a row of blocks: the row results' blocks, and that of the gradient of `x`. -/
def Rl (c : Dev nD) : (w : Fin cfg0.W) → Fin cfg0.N → ((cfg0.win w).block.Idx → Elt Ideal (cfg0.win w).elt) → Prop
  | ⟨6, _⟩ => fun t X => RowOut (lossT (argX m c) (argY m c) (argT m c) (argB m c)) ((Real.log 2 : ℝ) : EReal) t.val X
  | ⟨7, _⟩ => fun t X => DxOut (argX m c) (argY m c) (argT m c) (argB m c) (argS m c) t.val X
  | ⟨9, _⟩ => fun t X => RowOut (dtT (argX m c) (argY m c) (argT m c) (argB m c)) ((Real.log 2 * 8192⁻¹ : ℝ) : EReal) t.val X
  | ⟨10, _⟩ => fun t X => RowOut (dbT (argX m c) (argY m c) (argT m c) (argB m c)) ((8192⁻¹ : ℝ) : EReal) t.val X
  | _ => fun _ _ => True

/-- What the body at point `t` is called with. -/
def tbodyPre (c : Dev nD) (t : Fin cfg0.N) : sProp 𝕄 :=
  iprop((tdats m c).Φ t.castSucc ∗ (tdats m c).owesAt () t.castSucc
    ∗ (∃ d, owns (c : Thread nD τ) (st0_0 t) fullShare ((tdats m c).before 0 t d))
    ∗ (∃ d, owns (c : Thread nD τ) (st0_1 t) fullShare ((tdats m c).before 1 t d))
    ∗ (∃ d, owns (c : Thread nD τ) (st0_2 t) fullShare ((tdats m c).before 2 t d))
    ∗ (∃ d, owns (c : Thread nD τ) (st0_3 t) fullShare ((tdats m c).before 3 t d))
    ∗ (∃ d, owns (c : Thread nD τ) (st0_4 t) fullShare ((tdats m c).before 4 t d))
    ∗ (∃ d, owns (c : Thread nD τ) (st0_5 t) fullShare ((tdats m c).before 5 t d))
    ∗ (∃ Y, ⌜((tdats m c).toRRel fgt (Rl m c)).Finds 6 t Y⌝ ∗ owns (c : Thread nD τ) (st0_6 t) fullShare Y)
    ∗ (∃ Y, ⌜((tdats m c).toRRel fgt (Rl m c)).Finds 7 t Y⌝ ∗ owns (c : Thread nD τ) (st0_7 t) fullShare Y)
    ∗ (∃ Y, ⌜((tdats m c).toRRel fgt (Rl m c)).Finds 8 t Y⌝ ∗ owns (c : Thread nD τ) (st0_8 t) fullShare Y)
    ∗ (∃ Y, ⌜((tdats m c).toRRel fgt (Rl m c)).Finds 9 t Y⌝ ∗ owns (c : Thread nD τ) (st0_9 t) fullShare Y)
    ∗ (∃ Y, ⌜((tdats m c).toRRel fgt (Rl m c)).Finds 10 t Y⌝ ∗ owns (c : Thread nD τ) (st0_10 t) fullShare Y))

/-- What the body at point `t` returns. -/
def tbodyPost (c : Dev nD) (t : Fin cfg0.N) : sProp 𝕄 :=
  iprop((tdats m c).Φ t.succ ∗ (tdats m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

/-- The inputs' blocks at a point are the arguments' rows. -/
theorem reads_of (c : Dev nD) (t : Fin cfg0.N) (x0 : BufTy.Contents (Elt Ideal) (st0_0 t).view.ty) (x1 : BufTy.Contents (Elt Ideal) (st0_1 t).view.ty) (x4 : BufTy.Contents (Elt Ideal) (st0_4 t).view.ty) (x5 : BufTy.Contents (Elt Ideal) (st0_5 t).view.ty)
    (h0 : (st0_0 t).view.read (Elt Ideal) x0 = iblk m c 0 t) (h1 : (st0_1 t).view.read (Elt Ideal) x1 = iblk m c 1 t) (h4 : (st0_4 t).view.read (Elt Ideal) x4 = iblk m c 4 t) (h5 : (st0_5 t).view.read (Elt Ideal) x5 = iblk m c 5 t) :
    Reads (grid0.coords t) (win0_0.stage (cfg0.slots t 0)) (win0_1.stage (cfg0.slots t 1)) (win0_4.stage (cfg0.slots t 4)) (win0_5.stage (cfg0.slots t 5)) x0 x1 x4 x5 (argX m c (t.val / 128)) (argY m c (t.val / 128)) (argT m c) (argB m c) where
  hx C d := (congrFun h4 _).trans (iblk4_at m c t C d)
  hy r d := (congrFun h5 _).trans (iblk5_at m c t r d)
  ht := (congrFun h0 _).trans (iblk0_at m c t)
  hb := (congrFun h1 _).trans (iblk1_at m c t)

set_option maxHeartbeats 4000000 in
/-- The body at a point, tracked. -/
theorem tsound_body (c : Dev nD) (t : Fin cfg0.N) :
    tbodyPre m c t ⊢ wp Idealize.ShloMosaic.frame (wpE (defs₀ (F := Ideal)) Variants.none c none) Set.univ (bodyAt0 t) (fun _ => tbodyPost m c t) := by
  unfold tbodyPre tbodyPost bodyAt0
  simp only [before0_0_of m (tdats m c) rfl (fun _ => rfl), before0_1_of m (tdats m c) rfl (fun _ => rfl), before0_2_of m (tdats m c) rfl (fun _ => rfl), before0_3_of m (tdats m c) rfl (fun _ => rfl), before0_4_of m (tdats m c) rfl (fun _ => rfl), before0_5_of m (tdats m c) rfl (fun _ => rfl)]
  rw [show (tdats m c).Φ t.succ = trackΦ m c (t.val + 1) from rfl,
    show (tdats m c).owesAt () t.succ = (tdats m c).owesAt () t.castSucc from rfl,
    show (tdats m c).Φ t.castSucc = trackΦ m c t.val from rfl]
  unfold trackΦ carried owns
  iintro ⟨⟨⟨⟨%s0, S0⟩, ⟨%s1, S1⟩, ⟨%s3, S3⟩, ⟨%s2, %s4, %s5, %s6, %s7, %s8, %s9, %hI, S2, S4, S5, S6, S7, S8, S9⟩⟩, Hg⟩, Ho, ⟨%d0, %x0, %hx0, H0⟩, ⟨%d1, %x1, %hx1, H1⟩, ⟨%d2, %x2, %hx2, H2⟩, ⟨%d3, %x3, %hx3, H3⟩, ⟨%d4, %x4, %hx4, H4⟩, ⟨%d5, %x5, %hx5, H5⟩, ⟨%d6, %hd6, %x6, %hx6, H6⟩, ⟨%d7, %hd7, %x7, %hx7, H7⟩, ⟨%d8, %hd8, %x8, %hx8, H8⟩, ⟨%d9, %hd9, %x9, %hx9, H9⟩, ⟨%d10, %hd10, %x10, %hx10, H10⟩⟩
  have hR := reads_of m c t x0 x1 x4 x5 hx0 hx1 hx4 hx5
  iapply (kernelRun c (grid0.coords t) _ _ _ _ _ _ _ _ _ _ _ _ _ _ _ _ _ _ _ _ _ _ _ _ _ _ _ _ _ _ _ _ _ _ _ _ _ _ _ _ _ _ x0 x1 x2 x3 x4 x5 x6 x7 x8 x9 x10 s0 s1 s2 s3 s4 s5 s6 s7 s8 s9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, ⟨%g6, %g7, %g8, %g9, %g10, %r0, %r1, %r2, %r3, %r4, %r5, %r6, %r7, %r8, %r9, H6, H7, H8, H9, H10, S0, S1, S2, S3, S4, S5, S6, S7, S8, S9, %hF⟩⟩
  obtain ⟨hI, hX⟩ := hI
  obtain ⟨hF, hG⟩ := hF
  obtain ⟨hI', hO6, hO9, hO10⟩ := Inv.step t hI hF hR
  obtain ⟨hX', hO7⟩ := InvX.step t hX hI hF hG hR fun C => (congrFun hx2 _).trans (iblk2_at m c t C)
  isplitl [S0 S1 S2 S3 S4 S5 S6 S7 S8 S9 Hg]
  · isplitl [S0 S1 S2 S3 S4 S5 S6 S7 S8 S9]
    · isplitl [S0]; · iexists r0; iexact S0
      isplitl [S1]; · iexists r1; iexact S1
      isplitl [S3]; · iexists r3; iexact S3
      iexists r2, r4, r5, r6, r7, r8, r9
      isplitr; · (ipureintro; exact ⟨hI', hX'⟩)
      isplitl [S2]; · iexact S2
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]
  · iexists x0
    isplitr; · (ipureintro; exact hx0)
    iexact H0
  isplitl [H1]
  · iexists x1
    isplitr; · (ipureintro; exact hx1)
    iexact H1
  isplitl [H2]
  · iexists x2
    isplitr; · (ipureintro; exact hx2)
    iexact H2
  isplitl [H3]
  · iexists x3
    isplitr; · (ipureintro; exact hx3)
    iexact H3
  isplitl [H4]
  · iexists x4
    isplitr; · (ipureintro; exact hx4)
    iexact H4
  isplitl [H5]
  · iexists x5
    isplitr; · (ipureintro; exact hx5)
    iexact H5
  isplitl [H6]
  · iexists ((st0_6 t).view.read (Elt Ideal) g6)
    isplitr; · (ipureintro; exact hO6)
    iexists g6
    isplitr; · (ipureintro; rfl)
    iexact H6
  isplitl [H7]
  · iexists ((st0_7 t).view.read (Elt Ideal) g7)
    isplitr; · (ipureintro; exact hO7)
    iexists g7
    isplitr; · (ipureintro; rfl)
    iexact H7
  isplitl [H8]
  · iexists ((st0_8 t).view.read (Elt Ideal) g8)
    isplitr; · (ipureintro; exact trivial)
    iexists g8
    isplitr; · (ipureintro; rfl)
    iexact H8
  isplitl [H9]
  · iexists ((st0_9 t).view.read (Elt Ideal) g9)
    isplitr; · (ipureintro; exact hO9)
    iexists g9
    isplitr; · (ipureintro; rfl)
    iexact H9
  iexists ((st0_10 t).view.read (Elt Ideal) g10)
  isplitr; · (ipureintro; exact hO10)
  iexists g10
  isplitr; · (ipureintro; rfl)
  iexact H10

/-- The library's body obligation, the row results held to their sums. -/
theorem tbody_obligation (c : Dev nD) : BodyObligationRel (tdats m c) (defs₀ (F := Ideal)) Variants.none () Set.univ fgt (Rl m c) := fun t => by
  rw [bigSep_W0, bigSep_W0, defs₀_row]
  exact triple_restated (tsound_body m c t) rfl .rfl fun _ => .rfl

/-- The launch's scratch holds anything. -/
theorem trackΦ_in (c : Dev nD) : Pipeline.ΦA spec0 c ⊢ trackΦ m c 0 := by
  unfold Pipeline.ΦA trackΦ carried
  rw [scopedRest0_eq]
  simp only [← held_whole]
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hg⟩
  isplitl [S0 S1 S2 S3 S4 S5 S6 S7 S8 S9]
  · isplitl [S0]; · iexists s0; iexact S0
    isplitl [S1]; · iexists s1; iexact S1
    isplitl [S3]; · iexists s3; iexact S3
    iexists s2, s4, s5, s6, s7, s8, s9
    isplitr; · (ipureintro; exact ⟨Inv.zero _ _ _ _ _ _ _ _ _ _ _ _ _ _, InvX.zero _ _ _ _ _ _ _ _⟩)
    isplitl [S2]; · iexact S2
    isplitl [S4]; · iexact S4
    isplitl [S5]; · iexact S5
    isplitl [S6]; · iexact S6
    isplitl [S7]; · iexact S7
    isplitl [S8]; · iexact S8
    iexact S9
  iexact Hg
/-- And after the last point it is forgotten. -/
theorem trackΦ_out (c : Dev nD) (t : ℕ) : trackΦ m c t ⊢ Pipeline.ΦA spec0 c := by
  unfold Pipeline.ΦA trackΦ carried
  rw [scopedRest0_eq]
  simp only [← held_whole]
  iintro ⟨⟨⟨%s0, S0⟩, ⟨%s1, S1⟩, ⟨%s3, S3⟩, ⟨%s2, %s4, %s5, %s6, %s7, %s8, %s9, %hI, S2, S4, S5, S6, S7, S8, S9⟩⟩, Hg⟩
  isplitl [S0 S1 S2 S3 S4 S5 S6 S7 S8 S9]
  · isplitl [S0]; · iexists s0; iexact S0
    isplitl [S1]; · iexists s1; iexact S1
    isplitl [S2]; · iexists s2; iexact S2
    isplitl [S3]; · iexists s3; iexact S3
    isplitl [S4]; · iexists s4; iexact S4
    isplitl [S5]; · iexists s5; iexact S5
    isplitl [S6]; · iexists s6; iexact S6
    isplitl [S7]; · iexists s7; iexact S7
    isplitl [S8]; · iexists s8; iexact S8
    iexists s9; iexact S9
  iexact Hg

-- the run theorem's implicit arguments are found by unifying its conclusion with this one
set_option backward.isDefEq.respectTransparency.types false in
/-- Every weakly fair execution terminates, with every array holding what the tracked data allow. -/
theorem trun_main : θ_run defs (onTc (τ := τ) (main (F := Ideal))) (s₀ m ρ)
    (fun r => Pipeline.RDat.FramePost (cfgs 0) (fun c => (tdats m c).toRRel fgt (Rl m c)) (V m) r ∧ r.2.sem = fun _ => 0) :=
  Pipeline.RDat.θ_run_frame_track cfgs (0 : Fin 1) launch0 defs₀ Variants.none (fun c => (tdats m c).toRRel fgt (Rl m c)) m ρ main
    (fun c => (tbody_obligation m c).toRRel) (fun c => (tdats m c).share_full fun _ => rfl) (fun _ _ => rfl) (V m) (hmain m Variants.none) (fun _ _ => rfl)
    (fun c => trackΦ_in m c) (fun c => trackΦ_out m c _) _ (fun _ h => h)

end Cert.Proof.KernelIdeal

end
-- ==== Proof.Ideal.Arrays.lean ====
/-
  The kernel's row results and its gradient of `x` after the run, element by element.
-/
module

public import proofs.«01_k».proof.Proof.Ideal.Track
public import Idealize.ShloMosaic.Lib.Pipeline.ArrRel

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.Sem
open Idealize.ShloMosaic.Pipeline (Dat)

variable {c : Dev nD} (d : Dat τ (Elt Ideal) Unit ℕ (UR sig nD τ) ℕ cfg0 c) (F : ℕ → ℕ → ℕ → EReal) (k : EReal)

/-- The last point of the row of blocks of a column. -/
theorem last_lt (n : Fin 2) (C : Fin 8192) : 128 * n.val + 8 * (C.val / 512) + 7 < cfg0.N := by
  have := n.isLt; have := C.isLt
  have h : (cfg0.N : ℕ) = 256 := N_0
  omega

/-- Two flushing points of one index are one point. -/
theorem last_inj (t t' : Fin grid0.N) (h : t.val % 8 = 7) (h' : t'.val % 8 = 7)
    (e : (![t.val / 128, 0, t.val / 8 % 16] : Fin 3 → ℕ) = ![t'.val / 128, 0, t'.val / 8 % 16]) : t = t' := by
  have h0 : t.val / 128 = t'.val / 128 := congrFun e 0
  have h2 : t.val / 8 % 16 = t'.val / 8 % 16 := congrFun e 2
  exact Fin.ext (by omega)

/-- The place of an element in its block. -/
theorem place (n : Fin 2) (C : Fin 8192) (a : Fin 3) (e : Fin 3 → ℕ) (he : e = ![(128 * n.val + 8 * (C.val / 512) + 7) / 128, 0, (128 * n.val + 8 * (C.val / 512) + 7) / 8 % 16]) :
    e a * (![1, 1, 512] : Fin 3 → ℕ) a + (![0, 0, C.val % 512] : Fin 3 → ℕ) a = (![n.val, 0, C.val] : Fin 3 → ℕ) a := by
  have := n.isLt; have := C.isLt
  subst he
  fin_cases a
  · show (128 * n.val + 8 * (C.val / 512) + 7) / 128 * 1 + 0 = n.val
    omega
  · rfl
  · show (128 * n.val + 8 * (C.val / 512) + 7) / 8 % 16 * 512 + C.val % 512 = C.val
    omega

/-- A row result's element off its block. -/
theorem RowOut.at (n : Fin 2) (C : Fin 8192) (x : S1x1x512.Idx → EReal) (h : RowOut F k (128 * n.val + 8 * (C.val / 512) + 7) x) :
    x (ix3 (0 : Fin 1) (0 : Fin 1) (⟨C.val % 512, Nat.mod_lt _ (by norm_num)⟩ : Fin 512)) = (∑ r ∈ Finset.range 8192, F n.val r C.val) * k := by
  have := n.isLt; have := C.isLt
  rw [h (by omega)]
  have e1 : (128 * n.val + 8 * (C.val / 512) + 7) / 128 = n.val := by omega
  have e2 : 512 * ((128 * n.val + 8 * (C.val / 512) + 7) / 8 % 16) + C.val % 512 = C.val := by omega
  rw [e1]
  show (∑ r ∈ Finset.range 8192, F n.val r (512 * ((128 * n.val + 8 * (C.val / 512) + 7) / 8 % 16) + C.val % 512)) * k = _
  rw [e2]

/-- The loss. -/
theorem arr6 (h : ∀ u, (cfg0.win 6).flush u = true → RowOut F k u.val (d.after 6 u)) (n : Fin 2) (C : Fin 8192) :
    d.arrAt 6 cfg0.N (ix3 n (0 : Fin 1) C) = (∑ r ∈ Finset.range 8192, F n.val r C.val) * k := by
  have hn := n.isLt
  have hC := C.isLt
  have hf : (cfg0.win 6).flush ⟨_, last_lt n C⟩ = true := (flush0_6 _).2 (by show (128 * n.val + 8 * (C.val / 512) + 7) % 8 = 7; omega)
  have e := d.arrAt_emb_eq_flushed 6 (Pipeline.Window.hdisj_of_index_inj win0_6 fun t t' h h' e =>
    last_inj t t' ((flush0_6 t).1 h) ((flush0_6 t').1 h') (by rw [← index6, ← index6]; exact e)) ⟨_, last_lt n C⟩ hf
      (ix3 (0 : Fin 1) (0 : Fin 1) (⟨C.val % 512, Nat.mod_lt _ (by norm_num)⟩ : Fin 512))
  have hp : (win0_6.blk ⟨_, last_lt n C⟩).view.emb (ix3 (0 : Fin 1) (0 : Fin 1) (⟨C.val % 512, Nat.mod_lt _ (by norm_num)⟩ : Fin 512)) = ix3 n (0 : Fin 1) C := by
    funext a
    refine Fin.ext ((win0_6.rect_emb_val ⟨_, last_lt n C⟩ _ a).trans ?_)
    have := place n C a _ (index6 ⟨_, last_lt n C⟩)
    fin_cases a <;> exact this
  rw [← RowOut.at F k n C _ (h _ hf)]
  refine (congrArg (d.arrAt 6 cfg0.N) hp.symm).trans (e.trans ?_)
  rfl

/-- The temperature's gradient. -/
theorem arr9 (h : ∀ u, (cfg0.win 9).flush u = true → RowOut F k u.val (d.after 9 u)) (n : Fin 2) (C : Fin 8192) :
    d.arrAt 9 cfg0.N (ix3 n (0 : Fin 1) C) = (∑ r ∈ Finset.range 8192, F n.val r C.val) * k := by
  have hn := n.isLt
  have hC := C.isLt
  have hf : (cfg0.win 9).flush ⟨_, last_lt n C⟩ = true := (flush0_9 _).2 (by show (128 * n.val + 8 * (C.val / 512) + 7) % 8 = 7; omega)
  have e := d.arrAt_emb_eq_flushed 9 (Pipeline.Window.hdisj_of_index_inj win0_9 fun t t' h h' e =>
    last_inj t t' ((flush0_9 t).1 h) ((flush0_9 t').1 h') (by rw [← index9, ← index9]; exact e)) ⟨_, last_lt n C⟩ hf
      (ix3 (0 : Fin 1) (0 : Fin 1) (⟨C.val % 512, Nat.mod_lt _ (by norm_num)⟩ : Fin 512))
  have hp : (win0_9.blk ⟨_, last_lt n C⟩).view.emb (ix3 (0 : Fin 1) (0 : Fin 1) (⟨C.val % 512, Nat.mod_lt _ (by norm_num)⟩ : Fin 512)) = ix3 n (0 : Fin 1) C := by
    funext a
    refine Fin.ext ((win0_9.rect_emb_val ⟨_, last_lt n C⟩ _ a).trans ?_)
    have := place n C a _ (index9 ⟨_, last_lt n C⟩)
    fin_cases a <;> exact this
  rw [← RowOut.at F k n C _ (h _ hf)]
  refine (congrArg (d.arrAt 9 cfg0.N) hp.symm).trans (e.trans ?_)
  rfl

/-- The bias's gradient. -/
theorem arr10 (h : ∀ u, (cfg0.win 10).flush u = true → RowOut F k u.val (d.after 10 u)) (n : Fin 2) (C : Fin 8192) :
    d.arrAt 10 cfg0.N (ix3 n (0 : Fin 1) C) = (∑ r ∈ Finset.range 8192, F n.val r C.val) * k := by
  have hn := n.isLt
  have hC := C.isLt
  have hf : (cfg0.win 10).flush ⟨_, last_lt n C⟩ = true := (flush0_10 _).2 (by show (128 * n.val + 8 * (C.val / 512) + 7) % 8 = 7; omega)
  have e := d.arrAt_emb_eq_flushed 10 (Pipeline.Window.hdisj_of_index_inj win0_10 fun t t' h h' e =>
    last_inj t t' ((flush0_10 t).1 h) ((flush0_10 t').1 h') (by rw [← index10, ← index10]; exact e)) ⟨_, last_lt n C⟩ hf
      (ix3 (0 : Fin 1) (0 : Fin 1) (⟨C.val % 512, Nat.mod_lt _ (by norm_num)⟩ : Fin 512))
  have hp : (win0_10.blk ⟨_, last_lt n C⟩).view.emb (ix3 (0 : Fin 1) (0 : Fin 1) (⟨C.val % 512, Nat.mod_lt _ (by norm_num)⟩ : Fin 512)) = ix3 n (0 : Fin 1) C := by
    funext a
    refine Fin.ext ((win0_10.rect_emb_val ⟨_, last_lt n C⟩ _ a).trans ?_)
    have := place n C a _ (index10 ⟨_, last_lt n C⟩)
    fin_cases a <;> exact this
  rw [← RowOut.at F k n C _ (h _ hf)]
  refine (congrArg (d.arrAt 10 cfg0.N) hp.symm).trans (e.trans ?_)
  rfl

/-- Two flushing points of one index of the gradient of `x` are one point. -/
theorem last_inj7 (t t' : Fin grid0.N) (h : t.val % 8 = 7) (h' : t'.val % 8 = 7)
    (e : (![t.val / 128, t.val / 8 % 16, 0] : Fin 3 → ℕ) = ![t'.val / 128, t'.val / 8 % 16, 0]) : t = t' := by
  have h0 : t.val / 128 = t'.val / 128 := congrFun e 0
  have h1 : t.val / 8 % 16 = t'.val / 8 % 16 := congrFun e 1
  exact Fin.ext (by omega)

/-- The place of an element of the gradient of `x` in its block. -/
theorem place7 (n : Fin 2) (C : Fin 8192) (q : Fin 768) (a : Fin 3) (e : Fin 3 → ℕ) (he : e = ![(128 * n.val + 8 * (C.val / 512) + 7) / 128, (128 * n.val + 8 * (C.val / 512) + 7) / 8 % 16, 0]) :
    e a * (![1, 512, 768] : Fin 3 → ℕ) a + (![0, C.val % 512, q.val] : Fin 3 → ℕ) a = (![n.val, C.val, q.val] : Fin 3 → ℕ) a := by
  have := n.isLt; have := C.isLt
  subst he
  fin_cases a
  · show (128 * n.val + 8 * (C.val / 512) + 7) / 128 * 1 + 0 = n.val
    omega
  · show (128 * n.val + 8 * (C.val / 512) + 7) / 8 % 16 * 512 + C.val % 512 = C.val
    omega
  · show 0 * 768 + q.val = q.val
    omega

variable (X Y : ℕ → ℕ → Fin 768 → EReal) (T B : EReal) (S : ℕ → ℕ → EReal)

/-- An element of the gradient of `x` off its block. -/
theorem DxOut.at (n : Fin 2) (C : Fin 8192) (q : Fin 768) (x : S1x512x768.Idx → EReal) (h : DxOut X Y T B S (128 * n.val + 8 * (C.val / 512) + 7) x) :
    x (ix3 (0 : Fin 1) (⟨C.val % 512, Nat.mod_lt _ (by norm_num)⟩ : Fin 512) q)
      = projK (X n.val C.val) (fun e => ∑ r ∈ Finset.range 8192, gxT (X n.val) (Y n.val) T B e r C.val) (S n.val C.val) q := by
  have := n.isLt; have := C.isLt
  rw [h (by omega)]
  have e1 : (128 * n.val + 8 * (C.val / 512) + 7) / 128 = n.val := by omega
  have e2 : 512 * ((128 * n.val + 8 * (C.val / 512) + 7) / 8 % 16) + (⟨C.val % 512, Nat.mod_lt _ (by norm_num)⟩ : Fin 512).val = C.val := by
    show 512 * ((128 * n.val + 8 * (C.val / 512) + 7) / 8 % 16) + C.val % 512 = C.val
    omega
  rw [e1, e2]

/-- The gradient of `x`. -/
theorem arr7 (h : ∀ u, (cfg0.win 7).flush u = true → DxOut X Y T B S u.val (d.after 7 u)) (n : Fin 2) (C : Fin 8192) (q : Fin 768) :
    d.arrAt 7 cfg0.N (ix3 n C q)
      = projK (X n.val C.val) (fun e => ∑ r ∈ Finset.range 8192, gxT (X n.val) (Y n.val) T B e r C.val) (S n.val C.val) q := by
  have hn := n.isLt
  have hC := C.isLt
  have hf : (cfg0.win 7).flush ⟨_, last_lt n C⟩ = true := (flush0_7 _).2 (by show (128 * n.val + 8 * (C.val / 512) + 7) % 8 = 7; omega)
  have e := d.arrAt_emb_eq_flushed 7 (Pipeline.Window.hdisj_of_index_inj win0_7 fun t t' h h' e =>
    last_inj7 t t' ((flush0_7 t).1 h) ((flush0_7 t').1 h') (by rw [← index7, ← index7]; exact e)) ⟨_, last_lt n C⟩ hf
      (ix3 (0 : Fin 1) (⟨C.val % 512, Nat.mod_lt _ (by norm_num)⟩ : Fin 512) q)
  have hp : (win0_7.blk ⟨_, last_lt n C⟩).view.emb (ix3 (0 : Fin 1) (⟨C.val % 512, Nat.mod_lt _ (by norm_num)⟩ : Fin 512) q) = ix3 n C q := by
    funext a
    refine Fin.ext ((win0_7.rect_emb_val ⟨_, last_lt n C⟩ _ a).trans ?_)
    have := place7 n C q a _ (index7 ⟨_, last_lt n C⟩)
    fin_cases a <;> exact this
  rw [← DxOut.at X Y T B S n C q _ (h _ hf)]
  refine (congrArg (d.arrAt 7 cfg0.N) hp.symm).trans (e.trans ?_)
  rfl

end Cert.Proof.KernelIdeal

end
-- ==== Proof.Ideal.Rows.lean ====
/-
  The kernel's run: its row results and its gradient of `x`, element by element, in the launch's memory, and its arguments unchanged.
-/
module

public import proofs.«01_k».proof.Proof.Ideal.Arrays

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- From any memory the kernel ends with the loss, the temperature's gradient and the bias's gradient of each row of `x` at the sums of its
    terms over the rows of `y`, times their constants, with the gradient of `x` at the projection of its products with the rows of `y`, and leaves its arguments unchanged. -/
theorem run_rows : θ_run defs (onTc (τ := τ) (main (F := Ideal))) ⟨m, fun _ => 0, ρ⟩ (fun r => ∀ c : Dev nD,
      (∀ (n : Fin 2) (C : Fin 8192), r.2.mem ((c : Thread nD τ).loc main_v4_0) (ix3 n (0 : Fin 1) C)
        = (∑ r ∈ Finset.range 8192, lossT (argX m c) (argY m c) (argT m c) (argB m c) n.val r C.val) * ((Real.log 2 : ℝ) : EReal))
      ∧ (∀ (n : Fin 2) (C : Fin 8192), r.2.mem ((c : Thread nD τ).loc main_v4_3) (ix3 n (0 : Fin 1) C)
        = (∑ r ∈ Finset.range 8192, dtT (argX m c) (argY m c) (argT m c) (argB m c) n.val r C.val) * ((Real.log 2 * 8192⁻¹ : ℝ) : EReal))
      ∧ (∀ (n : Fin 2) (C : Fin 8192), r.2.mem ((c : Thread nD τ).loc main_v4_4) (ix3 n (0 : Fin 1) C)
        = (∑ r ∈ Finset.range 8192, dbT (argX m c) (argY m c) (argT m c) (argB m c) n.val r C.val) * ((8192⁻¹ : ℝ) : EReal))
      ∧ (∀ (n : Fin 2) (C : Fin 8192) (q : Fin 768), r.2.mem ((c : Thread nD τ).loc main_v4_1) (ix3 n C q)
        = projK (argX m c n.val C.val) (fun e => ∑ r ∈ Finset.range 8192, gxT (argX m c n.val) (argY m c n.val) (argT m c) (argB m c) e r C.val) (argS m c n.val C.val) q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (trun_main m ρ)
  obtain ⟨after, hL, hA⟩ := Pipeline.RDat.FramePost.exists_exact h.1 c
  exact ⟨fun n C => (congrFun (hA 6) _).trans (arr6 (((tdats m c).toRRel fgt (Rl m c)).withAfter after) (lossT (argX m c) (argY m c) (argT m c) (argB m c)) ((Real.log 2 : ℝ) : EReal) (fun u hf => (tdats m c).toRRel_leaves (w := 6) rfl (hL 6 u hf)) n C),
    fun n C => (congrFun (hA 9) _).trans (arr9 (((tdats m c).toRRel fgt (Rl m c)).withAfter after) (dtT (argX m c) (argY m c) (argT m c) (argB m c)) ((Real.log 2 * 8192⁻¹ : ℝ) : EReal) (fun u hf => (tdats m c).toRRel_leaves (w := 9) rfl (hL 9 u hf)) n C),
    fun n C => (congrFun (hA 10) _).trans (arr10 (((tdats m c).toRRel fgt (Rl m c)).withAfter after) (dbT (argX m c) (argY m c) (argT m c) (argB m c)) ((8192⁻¹ : ℝ) : EReal) (fun u hf => (tdats m c).toRRel_leaves (w := 10) rfl (hL 10 u hf)) n C),
    fun n C q => (congrFun (hA 7) _).trans (arr7 (((tdats m c).toRRel fgt (Rl m c)).withAfter after) (argX m c) (argY m c) (argT m c) (argB m c) (argS m c) (fun u hf => (tdats m c).toRRel_leaves (w := 7) rfl (hL 7 u hf)) n C q),
    (h.1.arr_in c 4 rfl).trans (V_main_arg0 m c),
    ((h.1 c).2 main_arg1 (Pipeline.mem_restRefs_of main_arg1 (by decide) (by decide))).trans (V_main_arg1 m c),
    (h.1.arr_in c 5 rfl).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩

end Cert.Proof.KernelIdeal

end
-- ==== Proof.Ideal.RefValue.lean ====
/-
  The reference's row results and its gradient of `x`, over the extended reals and at one element: the loss, and the gradients of the temperature and
  of the bias, as sums over the rows of `y`.
-/
module

public import proofs.«01_k».proof.Proof.Gen.ReferenceIdeal.Value
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.Tactic

/-- The norm of a row, one where it is zero. -/
def normR (x : Fin 768 → EReal) (s : EReal) : EReal :=
  if Ideal.sqrt (∑ d, x d * s * (x d * s)) = 0 then 1 else Ideal.sqrt (∑ d, x d * s * (x d * s))

/-- The scaled score of two rows. -/
def tuR (x y : Fin 768 → EReal) (s s' t : EReal) : EReal :=
  Ideal.exp t * ((∑ d, x d * y d) * Ideal.div s (normR x s) * Ideal.div s' (normR y s'))

/-- The softplus of a logit, its sign turned where `e` holds. -/
def softR (e : Prop) [Decidable e] (l : EReal) : EReal :=
  max (if e then 0 - l else l) 0 + Ideal.log1p (Ideal.exp (0 - max (if e then 0 - l else l) (-(if e then 0 - l else l))))

/-- The gradient of a logit. -/
def gradR (e : Prop) [Decidable e] (l : EReal) : EReal :=
  Ideal.div (Ideal.div 1 (1 + Ideal.exp (0 - l)) - (if e then 1 else 0)) ((8192 : ℝ) : EReal)

/-- The gradient of a row through its normalisation, from the codes and the scale, in the reference's way. -/
def projR (x g : Fin 768 → EReal) (s : EReal) (d : Fin 768) : EReal :=
  Ideal.div (g d - Ideal.div (x d * s) (normR x s) * ∑ e, Ideal.div (x e * s) (normR x s) * g e) (normR x s)

theorem ofBits_8192 : Ideal.ofBits .f32 1174405120#32 = ((8192 : ℝ) : EReal) := by
  simp [Ideal.ofBits, Ideal.ieee, -EReal.coe_mul]; norm_num

theorem pay3_at (v : Vec Ideal S2x8192x768 .fp8e4m3) (s : Vec Ideal S2x8192 .f32) (n : Fin 2) (r : Fin 8192) :
    k0_pay3 v s (ix2 n r) = normR (fun d => v (ix3 n r d)) (s (ix2 n r)) := by
  pointwise [k0_pay3, normR]

theorem pay4_at (v : Vec Ideal S2x8192x768 .fp8e4m3) (s : Vec Ideal S2x8192 .f32) (n : Fin 2) (r : Fin 8192) :
    k0_pay4 v s (ix2 n r) = normR (fun d => v (ix3 n r d)) (s (ix2 n r)) := by
  pointwise [k0_pay4, normR]

theorem pay7_at (v : Vec Ideal S2x8192x768 .fp8e4m3) (s : Vec Ideal S2x8192 .f32) (n : Fin 2) (r : Fin 8192) :
    k0_pay7 v s (ix2 n r) = Ideal.div (s (ix2 n r)) (normR (fun d => v (ix3 n r d)) (s (ix2 n r))) := by
  pointwise [k0_pay7]
  rw [pay3_at]

theorem pay8_at (v : Vec Ideal S2x8192x768 .fp8e4m3) (s : Vec Ideal S2x8192 .f32) (n : Fin 2) (r : Fin 8192) :
    k0_pay8 v s (ix2 n r) = Ideal.div (s (ix2 n r)) (normR (fun d => v (ix3 n r d)) (s (ix2 n r))) := by
  pointwise [k0_pay8]
  rw [pay4_at]

variable (x y : Vec Ideal S2x8192x768 .fp8e4m3) (s s' : Vec Ideal S2x8192 .f32) (t b : EReal)

theorem pay9_at (n : Fin 2) (C r : Fin 8192) :
    k0_pay9 (F := Ideal) x y (k0_pay2 t) (k0_pay7 x s) (k0_pay8 y s') (ix3 n C r)
      = tuR (fun d => x (ix3 n C d)) (fun d => y (ix3 n r d)) (s (ix2 n C)) (s' (ix2 n r)) t := by
  pointwise [k0_pay9, k0_pay2]
  rw [pay7_at, pay8_at]
  rfl

theorem pay10_at (n : Fin 2) (C r : Fin 8192) :
    k0_pay10 (F := Ideal) x y (k0_pay2 t) b (k0_pay7 x s) (k0_pay8 y s') (ix3 n C r)
      = tuR (fun d => x (ix3 n C d)) (fun d => y (ix3 n r d)) (s (ix2 n C)) (s' (ix2 n r)) t + b := by
  pointwise [k0_pay10]
  rw [pay9_at]

theorem pay11_at (n : Fin 2) (C r : Fin 8192) : k0_pay11 (ix3 n C r) = if C = r then 1#1 else 0#1 := by
  pointwise [k0_pay11]
  have h1 := C.isLt
  have h2 := r.isLt
  simp only [IntOp.cmpi]
  have he : (BitVec.ofNat 32 C.val == BitVec.ofNat 32 r.val) = decide (C = r) := by
    rw [Bool.eq_iff_iff, beq_iff_eq, decide_eq_true_iff, ← BitVec.toNat_inj, Fin.ext_iff]
    simp only [BitVec.toNat_ofNat]
    omega
  rw [he]
  split_ifs with h <;> simp [h]

theorem pay12_at (n : Fin 2) (C : Fin 8192) :
    k0_pay12 (F := Ideal) x y (k0_pay2 t) b (k0_pay7 x s) (k0_pay8 y s') (ix3 n 0 C)
      = ∑ r : Fin 8192, softR (C = r) (tuR (fun d => x (ix3 n C d)) (fun d => y (ix3 n r d)) (s (ix2 n C)) (s' (ix2 n r)) t + b) := by
  pointwise [k0_pay12]
  refine Finset.sum_congr rfl fun r _ => ?_
  rw [pay10_at, pay11_at]
  unfold softR
  split_ifs <;> rfl

theorem pay13_at (n : Fin 2) (C r : Fin 8192) :
    k0_pay13 (F := Ideal) x y (k0_pay2 t) b (k0_pay7 x s) (k0_pay8 y s') (ix3 n C r)
      = gradR (C = r) (tuR (fun d => x (ix3 n C d)) (fun d => y (ix3 n r d)) (s (ix2 n C)) (s' (ix2 n r)) t + b) := by
  pointwise [k0_pay13]
  rw [pay10_at, pay11_at, ofBits_8192]
  unfold gradR
  split_ifs <;> rfl

theorem pay14_at (n : Fin 2) (C : Fin 8192) :
    k0_pay14 (F := Ideal) x y (k0_pay2 t) b (k0_pay7 x s) (k0_pay8 y s') (ix3 n 0 C)
      = ∑ r : Fin 8192, gradR (C = r) (tuR (fun d => x (ix3 n C d)) (fun d => y (ix3 n r d)) (s (ix2 n C)) (s' (ix2 n r)) t + b)
          * tuR (fun d => x (ix3 n C d)) (fun d => y (ix3 n r d)) (s (ix2 n C)) (s' (ix2 n r)) t := by
  pointwise [k0_pay14]
  refine Finset.sum_congr rfl fun r _ => ?_
  rw [pay13_at, pay9_at]

theorem pay15_at (n : Fin 2) (C : Fin 8192) :
    k0_pay15 (F := Ideal) (k0_pay13 x y (k0_pay2 t) b (k0_pay7 x s) (k0_pay8 y s')) (ix3 n 0 C)
      = ∑ r : Fin 8192, gradR (C = r) (tuR (fun d => x (ix3 n C d)) (fun d => y (ix3 n r d)) (s (ix2 n C)) (s' (ix2 n r)) t + b) := by
  pointwise [k0_pay15]
  refine Finset.sum_congr rfl fun r _ => ?_
  rw [pay13_at]

/-- The scaled codes. -/
theorem pay5_at (v : Vec Ideal S2x8192x768 .fp8e4m3) (s : Vec Ideal S2x8192 .f32) (n : Fin 2) (r : Fin 8192) (d : Fin 768) :
    k0_pay5 v s (ix3 n r d) = v (ix3 n r d) * s (ix2 n r) := by
  pointwise [k0_pay5]
theorem pay6_at (v : Vec Ideal S2x8192x768 .fp8e4m3) (s : Vec Ideal S2x8192 .f32) (n : Fin 2) (r : Fin 8192) (d : Fin 768) :
    k0_pay6 v s (ix3 n r d) = v (ix3 n r d) * s (ix2 n r) := by
  pointwise [k0_pay6]

theorem pay2_at : k0_pay2 (F := Ideal) t (ix3 (0 : Fin 1) (0 : Fin 1) (0 : Fin 1)) = Ideal.exp t := by
  pointwise [k0_pay2]

/-- The gradient of `x`, from its parts. -/
theorem pay16_parts (v6 : FVec Ideal S1x1x1 .f32) (v25 v29 : FVec Ideal S2x8192 .f32) (v34 v39 : FVec Ideal S2x8192x768 .bf16) (v82 : FVec Ideal S2x8192x8192 .f32)
    (n : Fin 2) (C : Fin 8192) (d : Fin 768) : k0_pay16 v6 v25 v29 v34 v39 v82 (ix3 n C d)
      = Ideal.div (v6 (ix3 (0 : Fin 1) (0 : Fin 1) (0 : Fin 1)) * (∑ r : Fin 8192, Ideal.div (v82 (ix3 n C r)) (v29 (ix2 n r)) * v39 (ix3 n r d))
          - Ideal.div (v34 (ix3 n C d)) (v25 (ix2 n C)) * ∑ e : Fin 768, Ideal.div (v34 (ix3 n C e)) (v25 (ix2 n C))
            * (v6 (ix3 (0 : Fin 1) (0 : Fin 1) (0 : Fin 1)) * ∑ r : Fin 8192, Ideal.div (v82 (ix3 n C r)) (v29 (ix2 n r)) * v39 (ix3 n r e))) (v25 (ix2 n C)) := by
  pointwise [k0_pay16]

theorem pay16_at (n : Fin 2) (C : Fin 8192) (d : Fin 768) :
    k0_pay16 (F := Ideal) (k0_pay2 t) (k0_pay3 x s) (k0_pay4 y s') (k0_pay5 x s) (k0_pay6 y s') (k0_pay13 x y (k0_pay2 t) b (k0_pay7 x s) (k0_pay8 y s')) (ix3 n C d)
      = projR (fun d => x (ix3 n C d)) (fun e => Ideal.exp t * ∑ r : Fin 8192,
          Ideal.div (gradR (C = r) (tuR (fun d => x (ix3 n C d)) (fun d => y (ix3 n r d)) (s (ix2 n C)) (s' (ix2 n r)) t + b)) (normR (fun d => y (ix3 n r d)) (s' (ix2 n r)))
            * (y (ix3 n r e) * s' (ix2 n r))) (s (ix2 n C)) d := by
  rw [pay16_parts]
  simp only [pay13_at, pay3_at, pay4_at, pay5_at, pay6_at, pay2_at]
  rfl

section
variable (c : Dev nD) (arg0 : Memref sig .tc .smem S1 .f32) (harg0 : arg0.IsWhole)
    (arg1 : Memref sig .tc .smem S1 .f32) (harg1 : arg1.IsWhole)
    (arg2 : Memref sig .tc .vmem S2x8192x768 .fp8e4m3) (harg2 : arg2.IsWhole)
    (arg3 : Memref sig .tc .vmem S2x8192 .f32) (harg3 : arg3.IsWhole)
    (arg4 : Memref sig .tc .vmem S2x8192x768 .fp8e4m3) (harg4 : arg4.IsWhole)
    (arg5 : Memref sig .tc .vmem S2x8192 .f32) (harg5 : arg5.IsWhole)
    (arg6 : Memref sig .tc .vmem S2x1x8192 .f32) (harg6 : arg6.IsWhole)
    (arg7 : Memref sig .tc .vmem S2x8192x768 .bf16) (harg7 : arg7.IsWhole)
    (arg8 : Memref sig .tc .vmem S2x8192x768 .bf16) (harg8 : arg8.IsWhole)
    (arg9 : Memref sig .tc .vmem S2x1x8192 .f32) (harg9 : arg9.IsWhole)
    (arg10 : Memref sig .tc .vmem S2x1x8192 .f32) (harg10 : arg10.IsWhole)
    (x0 x1 : Vec Ideal S1 .f32) (x2 : Vec Ideal S2x8192x768 .fp8e4m3) (x3 : Vec Ideal S2x8192 .f32) (x4 : Vec Ideal S2x8192x768 .fp8e4m3) (x5 : Vec Ideal S2x8192 .f32)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A one-element buffer's element. -/
theorem ld_one (x : Vec Ideal S1 .f32) (h) : View.ld x (Rect.unit (s := S1) ![0] ![1] inb_S1_S1_0) (Shape.Idx.first h) = x (ix1 0) :=
  congrArg x (by funext a; fin_cases a; rfl)

/-- What the body leaves in output 6. -/
theorem out6 : out0_A_6 c arg0 harg0 arg1 harg1 arg2 harg2 arg3 harg3 arg4 harg4 arg5 harg5 arg6 harg6 arg7 harg7 arg8 harg8 arg9 harg9 arg10 harg10 x0 x1 x2 x3 x4 x5 = k0_pay12 x2 x4 (k0_pay2 (x0 (ix1 0))) (x1 (ix1 0)) (k0_pay7 x2 x3) (k0_pay8 x4 x5) := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg0.read_unread, harg1.read_unread, harg2.read_unread, harg3.read_unread, harg4.read_unread, harg5.read_unread, View.ld_unit_zero (S := S2x8192x768) hz3, View.ld_unit_zero (S := S2x8192) hz2, View.ld_unit_zero (S := S1) hz1]
  rw [ld_one, ld_one]

/-- What the body leaves in output 7. -/
theorem out7 : out0_A_7 c arg0 harg0 arg1 harg1 arg2 harg2 arg3 harg3 arg4 harg4 arg5 harg5 arg6 harg6 arg7 harg7 arg8 harg8 arg9 harg9 arg10 harg10 x0 x1 x2 x3 x4 x5 = k0_pay16 (k0_pay2 (x0 (ix1 0))) (k0_pay3 x2 x3) (k0_pay4 x4 x5) (k0_pay5 x2 x3) (k0_pay6 x4 x5) (k0_pay13 x2 x4 (k0_pay2 (x0 (ix1 0))) (x1 (ix1 0)) (k0_pay7 x2 x3) (k0_pay8 x4 x5)) := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg0.read_unread, harg1.read_unread, harg2.read_unread, harg3.read_unread, harg4.read_unread, harg5.read_unread, View.ld_unit_zero (S := S2x8192x768) hz3, View.ld_unit_zero (S := S2x8192) hz2, View.ld_unit_zero (S := S1) hz1]
  rw [ld_one, ld_one]

/-- What the body leaves in output 9. -/
theorem out9 : out0_A_9 c arg0 harg0 arg1 harg1 arg2 harg2 arg3 harg3 arg4 harg4 arg5 harg5 arg6 harg6 arg7 harg7 arg8 harg8 arg9 harg9 arg10 harg10 x0 x1 x2 x3 x4 x5 = k0_pay14 x2 x4 (k0_pay2 (x0 (ix1 0))) (x1 (ix1 0)) (k0_pay7 x2 x3) (k0_pay8 x4 x5) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg0.read_unread, harg1.read_unread, harg2.read_unread, harg3.read_unread, harg4.read_unread, harg5.read_unread, View.ld_unit_zero (S := S2x8192x768) hz3, View.ld_unit_zero (S := S2x8192) hz2, View.ld_unit_zero (S := S1) hz1]
  rw [ld_one, ld_one]

/-- What the body leaves in output 10. -/
theorem out10 : out0_A_10 c arg0 harg0 arg1 harg1 arg2 harg2 arg3 harg3 arg4 harg4 arg5 harg5 arg6 harg6 arg7 harg7 arg8 harg8 arg9 harg9 arg10 harg10 x0 x1 x2 x3 x4 x5 = k0_pay15 (k0_pay13 x2 x4 (k0_pay2 (x0 (ix1 0))) (x1 (ix1 0)) (k0_pay7 x2 x3) (k0_pay8 x4 x5)) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg0.read_unread, harg1.read_unread, harg2.read_unread, harg3.read_unread, harg4.read_unread, harg5.read_unread, View.ld_unit_zero (S := S2x8192x768) hz3, View.ld_unit_zero (S := S2x8192) hz2, View.ld_unit_zero (S := S1) hz1]
  rw [ld_one, ld_one]
end

end Cert.Proof.ReferenceIdeal

end
-- ==== Proof.Ideal.Logit.lean ====
/-
  The two ways of the loss and of its gradient agree at one logit: in base two with the factors taken out (the kernel), and in base `e` (the
  reference).
-/
module

public import proofs.«01_k».proof.Proof.Ideal.PointInv
public import proofs.«01_k».proof.Proof.Ideal.RefValue

@[expose] public section

set_option maxRecDepth 16384

noncomputable section

namespace Cert.Proof.Logit

open Cert.Proof.KernelIdeal Cert.Proof.ReferenceIdeal
open Idealize.ShloMosaic

/-- A row of which the sum of squares is not a real number has no factor. -/
theorem sumsq_cases (x : Fin 768 → EReal) : (∃ f : Fin 768 → ℝ, ∀ d, x d = (f d : EReal)) ∨
    ∀ s : ℝ, 0 < s → ∑ d, x d * (s : EReal) * (x d * (s : EReal)) = ⊤ := by
  by_cases h : ∀ d, x d ≠ ⊤ ∧ x d ≠ ⊥
  · exact .inl ⟨fun d => (x d).toReal, fun d => (EReal.coe_toReal (h d).1 (h d).2).symm⟩
  · right
    intro s hs
    have nn : ∀ d, 0 ≤ x d * (s : EReal) * (x d * (s : EReal)) := fun d => by
      rcases le_total 0 (x d * (s : EReal)) with h | h
      · exact mul_nonneg h h
      · exact EReal.mul_nonneg_iff.2 (.inr ⟨h, h⟩)
    simp only [not_forall, not_and_or, not_not] at h
    obtain ⟨d, hd⟩ := h
    refine top_unique ?_
    refine le_trans ?_ (Finset.single_le_sum (f := fun d => x d * (s : EReal) * (x d * (s : EReal))) (fun d _ => nn d) (Finset.mem_univ d))
    rcases hd with hd | hd
    · simp only [hd, EReal.top_mul_coe_of_pos hs, EReal.top_mul_top, le_refl]
    · simp only [hd, EReal.bot_mul_coe_of_pos hs, EReal.bot_mul_bot, le_refl]

/-- The two factors of a row are equal, unless the row is zero. -/
theorem factor (x : Fin 768 → EReal) (s : ℝ) (hs : 0 < s) :
    (∀ d, x d = 0) ∨ Ideal.div (s : EReal) (normR x (s : EReal)) = invN x := by
  rcases sumsq_cases x with ⟨f, hf⟩ | h
  · have e1 : ∑ d, x d * x d = ((∑ d, f d * f d : ℝ) : EReal) := by
      rw [coe_sum]; exact Finset.sum_congr rfl fun d _ => by rw [hf, EReal.coe_mul]
    have e2 : ∑ d, x d * (s : EReal) * (x d * (s : EReal)) = ((s * s * ∑ d, f d * f d : ℝ) : EReal) := by
      rw [Finset.mul_sum, coe_sum]
      exact Finset.sum_congr rfl fun d _ => by rw [hf, ← EReal.coe_mul, ← EReal.coe_mul]; congr 1; ring
    have hn : 0 ≤ ∑ d, f d * f d := Finset.sum_nonneg fun d _ => mul_self_nonneg _
    by_cases h0 : ∑ d, f d * f d = 0
    · left
      intro d
      have := (Finset.sum_eq_zero_iff_of_nonneg fun d _ => mul_self_nonneg (f d)).1 h0 d (Finset.mem_univ d)
      rw [hf, mul_self_eq_zero.1 this]; rfl
    · right
      have hp : 0 < ∑ d, f d * f d := lt_of_le_of_ne hn (Ne.symm h0)
      have hq : Real.sqrt (s * s * ∑ d, f d * f d) = s * Real.sqrt (∑ d, f d * f d) := by
        rw [Real.sqrt_mul (mul_self_nonneg s), Real.sqrt_mul_self hs.le]
      have hr : 0 < Real.sqrt (∑ d, f d * f d) := Real.sqrt_pos.2 hp
      have hne : s * Real.sqrt (∑ d, f d * f d) ≠ 0 := (mul_pos hs hr).ne'
      unfold normR invN
      rw [e1, e2, Ideal.sqrt_coe, if_neg (not_lt.2 (mul_nonneg (mul_self_nonneg s) hn)), hq, if_neg (by exact_mod_cast hne), Ideal.div_coe hne,
        if_neg (by exact_mod_cast h0), Ideal.rsqrt_coe, if_neg (not_lt.2 hn), if_neg h0, ← EReal.coe_mul]
      congr 1
      field_simp
  · have h1 : ∑ d, x d * x d = ⊤ := by simpa using h 1 one_pos
    have hi : invN x = 0 := by unfold invN; rw [h1]; simp
    right
    rw [hi]
    unfold normR
    rw [h s hs]
    simp [Ideal.div]

/-- The scores of the two programs agree. -/
theorem score (X Y : ℕ → Fin 768 → EReal) (t : EReal) (r C : ℕ) (s s' : ℝ) (hs : 0 < s) (hs' : 0 < s') :
    tuR (X C) (Y r) (s : EReal) (s' : EReal) t = zG X Y t r C * ((Real.log 2 : ℝ) : EReal) := by
  have hx := factor (X C) s hs
  have hy := factor (Y r) s' hs'
  have hl : 0 < Real.log 2 := Real.log_pos (by norm_num)
  have hc : ∑ d, X C d * Y r d = ∑ d, Y r d * X C d := Finset.sum_congr rfl fun d _ => mul_comm _ _
  have hu : tuR (X C) (Y r) (s : EReal) (s' : EReal) t = Ideal.exp t * ((∑ d, Y r d * X C d) * invN (X C) * invN (Y r)) := by
    unfold tuR
    rw [hc]
    rcases hx with h | h
    · have : ∑ d, Y r d * X C d = 0 := Finset.sum_eq_zero fun d _ => by rw [h, mul_zero]
      rw [this]; simp only [zero_mul]
    · rcases hy with h' | h'
      · have : ∑ d, Y r d * X C d = 0 := Finset.sum_eq_zero fun d _ => by rw [h', zero_mul]
        rw [this]; simp only [zero_mul]
      · rw [h, h']
  rw [hu]
  unfold zG
  have hk : (kL : EReal) * ((Real.log 2 : ℝ) : EReal) = 1 := by
    rw [← EReal.coe_mul, show kL * Real.log 2 = 1 from inv_mul_cancel₀ hl.ne', EReal.coe_one]
  rw [show ∀ w e q q' : EReal, w * (q * (q' * (e * (kL : EReal)))) * ((Real.log 2 : ℝ) : EReal) = e * (w * q' * q) from fun w e q q' => by
    calc w * (q * (q' * (e * (kL : EReal)))) * ((Real.log 2 : ℝ) : EReal) = e * (w * q' * q) * ((kL : EReal) * ((Real.log 2 : ℝ) : EReal)) := by ac_rfl
      _ = _ := by rw [hk, mul_one]]

theorem log2_pos : 0 < Real.log 2 := Real.log_pos (by norm_num)

/-- A power of two. -/
theorem eV_coe (l : ℝ) : eV (l : EReal) = ((Real.exp (-(max (l * Real.log 2) (-(l * Real.log 2)))) : ℝ) : EReal) := by
  have hm : max (l : EReal) (-(l : EReal)) = ((max l (-l) : ℝ) : EReal) := by
    rw [← EReal.coe_neg]; exact (EReal.coe_strictMono.monotone.map_max (a := l) (b := -l)).symm
  unfold eV
  rw [hm, ← EReal.coe_zero, ← EReal.coe_sub, Ideal.exp2_coe]
  congr 1
  have hx : max (l * Real.log 2) (-(l * Real.log 2)) = max l (-l) * Real.log 2 := by
    rw [max_mul_of_nonneg _ _ log2_pos.le, neg_mul]
  rw [hx]
  show (2 : ℝ) ^ (0 - max l (-l)) = _
  rw [Real.rpow_def_of_pos (by norm_num)]
  congr 1
  ring

/-- The softplus in base two, rescaled. -/
theorem soft (l : EReal) : lossV l * ((Real.log 2 : ℝ) : EReal)
    = max (l * ((Real.log 2 : ℝ) : EReal)) 0
      + Ideal.log1p (Ideal.exp (0 - max (l * ((Real.log 2 : ℝ) : EReal)) (-(l * ((Real.log 2 : ℝ) : EReal))))) := by
  have h2 := log2_pos
  induction l with
  | bot =>
    have : eR ⊥ = 0 := by unfold eR eV; simp
    unfold lossV Ideal.log1p
    rw [this, EReal.bot_mul_coe_of_pos h2]
    simp [← EReal.coe_one]
  | top =>
    have : eR ⊤ = 0 := by unfold eR eV; simp
    unfold lossV Ideal.log1p
    rw [this, EReal.top_mul_coe_of_pos h2]
    simp [← EReal.coe_one, EReal.top_mul_coe_of_pos h2]
  | coe l =>
    have he : eR l = Real.exp (-(max (l * Real.log 2) (-(l * Real.log 2)))) := by unfold eR; rw [eV_coe]; rfl
    have hm : ∀ a b : ℝ, max (a : EReal) (b : EReal) = ((max a b : ℝ) : EReal) := fun a b => (EReal.coe_strictMono.monotone.map_max (a := a) (b := b)).symm
    have hp : 0 < 1 + Real.exp (-(max (l * Real.log 2) (-(l * Real.log 2)))) := by positivity
    unfold lossV Ideal.log1p
    rw [he, ← EReal.coe_zero, ← EReal.coe_mul, ← EReal.coe_neg, hm, hm, hm, ← EReal.coe_sub, Ideal.exp_coe, ← EReal.coe_one, ← EReal.coe_add, ← EReal.coe_add,
      ← EReal.coe_mul, zero_sub, Ideal.log_coe, if_neg (not_le.2 hp), ← EReal.coe_add]
    congr 1
    have hk : kL * Real.log 2 = 1 := inv_mul_cancel₀ h2.ne'
    have hx : max (l * Real.log 2) 0 = max l 0 * Real.log 2 := by rw [max_mul_of_nonneg _ _ h2.le, zero_mul]
    rw [hx, add_mul, mul_assoc, hk, mul_one]

/-- The sigmoid in base two. -/
theorem sV_coe (l : ℝ) : sV (l : EReal) = (((1 + Real.exp (-(l * Real.log 2)))⁻¹ : ℝ) : EReal) := by
  have h2 := log2_pos
  have hp : ∀ x : ℝ, 1 + Real.exp x ≠ 0 := fun x => by positivity
  unfold sV
  rw [eV_coe, ← EReal.coe_one, ← EReal.coe_add, Ideal.div_coe (hp _), ← EReal.coe_mul, ← EReal.coe_mul]
  by_cases h : (0 : ℝ) ≤ l
  · rw [if_pos (by exact_mod_cast h)]
    have : max (l * Real.log 2) (-(l * Real.log 2)) = l * Real.log 2 := max_eq_left (by nlinarith [mul_nonneg h h2.le])
    rw [this, one_mul, one_div]
  · rw [if_neg (by exact_mod_cast h)]
    have : max (l * Real.log 2) (-(l * Real.log 2)) = -(l * Real.log 2) := max_eq_right (by nlinarith [mul_pos (neg_pos.2 (not_le.1 h)) h2])
    rw [this, neg_neg]
    congr 1
    have := hp (l * Real.log 2)
    have hq := hp (-(l * Real.log 2))
    have : Real.exp (l * Real.log 2) * Real.exp (-(l * Real.log 2)) = 1 := by rw [← Real.exp_add, add_neg_cancel, Real.exp_zero]
    field_simp
    nlinarith

/-- The sigmoids of a logit and of its opposite. -/
theorem sig (l : EReal) : ∃ σ : ℝ, sV l = (σ : EReal) ∧ sV (-l) = ((1 - σ : ℝ) : EReal)
    ∧ Ideal.div 1 (1 + Ideal.exp (0 - l * ((Real.log 2 : ℝ) : EReal))) = (σ : EReal) := by
  have h2 := log2_pos
  have ht : sV ⊤ = ((1 : ℝ) : EReal) := by unfold sV eV; simp [Ideal.div]
  have hb : sV ⊥ = ((0 : ℝ) : EReal) := by unfold sV eV; simp [Ideal.div]
  induction l with
  | bot =>
    refine ⟨0, hb, ?_, ?_⟩
    · rw [EReal.neg_bot, ht]; simp
    · rw [EReal.bot_mul_coe_of_pos h2]
      simp [Ideal.div, show (1 : EReal) + ⊤ = ⊤ from EReal.coe_add_top 1]
  | top =>
    refine ⟨1, ht, ?_, ?_⟩
    · rw [EReal.neg_top, hb]; simp
    · rw [EReal.top_mul_coe_of_pos h2]; simp [Ideal.div]
  | coe l =>
    have hp : ∀ x : ℝ, 1 + Real.exp x ≠ 0 := fun x => by positivity
    refine ⟨_, sV_coe l, ?_, ?_⟩
    · rw [← EReal.coe_neg, sV_coe]
      congr 1
      have := hp (l * Real.log 2)
      have hq := hp (-(l * Real.log 2))
      have : Real.exp (l * Real.log 2) * Real.exp (-(l * Real.log 2)) = 1 := by rw [← Real.exp_add, add_neg_cancel, Real.exp_zero]
      rw [neg_mul, neg_neg]
      field_simp
      nlinarith
    · rw [← EReal.coe_zero, ← EReal.coe_mul, ← EReal.coe_sub, Ideal.exp_coe, ← EReal.coe_one, ← EReal.coe_add, Ideal.div_coe (hp _), ← EReal.coe_mul, zero_sub,
        one_mul, one_div]

/-- A positive real factor goes into a sum of two. -/
theorem add_scale (x y : EReal) (k : ℝ) (hk : 0 ≤ k) : (x + y) * (k : EReal) = x * (k : EReal) + y * (k : EReal) :=
  EReal.right_distrib_of_nonneg_of_ne_top (by exact_mod_cast hk) (EReal.coe_ne_top k) x y

/-- A positive real factor goes into a sum. -/
theorem sum_coe_scale {ι : Type} (S : Finset ι) (f : ι → EReal) (k : ℝ) (hk : 0 ≤ k) : (∑ i ∈ S, f i) * (k : EReal) = ∑ i ∈ S, f i * (k : EReal) := by
  classical
  induction S using Finset.induction_on with
  | empty => simp
  | insert a S h ih => rw [Finset.sum_insert h, Finset.sum_insert h, add_scale _ _ _ hk, ih]

/-- The logit, rescaled. -/
theorem logit (z b : EReal) : (z + b * ((kL : ℝ) : EReal)) * ((Real.log 2 : ℝ) : EReal) = z * ((Real.log 2 : ℝ) : EReal) + b := by
  rw [add_scale _ _ _ log2_pos.le, mul_assoc b, ← EReal.coe_mul, show kL * Real.log 2 = 1 from inv_mul_cancel₀ log2_pos.ne', EReal.coe_one, mul_one]

section
variable (X Y : ℕ → Fin 768 → EReal) (t b : EReal) (r C : ℕ) (s s' : ℝ) (hs : 0 < s) (hs' : 0 < s')
include hs hs'

/-- The loss of one pair of rows. -/
theorem loss_at (e : Prop) [Decidable e] (he : e ↔ r = C) :
    lossV (lG X Y t b r C) * ((Real.log 2 : ℝ) : EReal) = softR e (tuR (X C) (Y r) (s : EReal) (s' : EReal) t + b) := by
  rw [soft, score X Y t r C s s' hs hs']
  unfold lG softR
  by_cases h : r = C
  · rw [if_pos h, if_pos (he.2 h), EReal.neg_mul, logit]
    simp only [zero_sub]
  · rw [if_neg h, if_neg (fun x => h (he.1 x)), logit]

/-- The gradient of the logit of one pair of rows. -/
theorem grad_at (e : Prop) [Decidable e] (he : e ↔ r = C) : ∃ g : ℝ, sG X Y t b r C = (g : EReal)
    ∧ gradR e (tuR (X C) (Y r) (s : EReal) (s' : EReal) t + b) = ((g * 8192⁻¹ : ℝ) : EReal) := by
  rw [score X Y t r C s s' hs hs']
  unfold sG lG gradR
  rw [← logit]
  obtain ⟨σ, h1, h2, h3⟩ := sig (zG X Y t r C + b * ((kL : ℝ) : EReal))
  rw [h3]
  by_cases h : r = C
  · refine ⟨σ - 1, ?_, ?_⟩
    · rw [if_pos h, if_pos h, h2, ← EReal.coe_neg, neg_sub]
    · rw [if_pos (he.2 h), Ideal.div_coe (by norm_num), ← EReal.coe_one, ← EReal.coe_sub, ← EReal.coe_mul, one_div]
  · refine ⟨σ, ?_, ?_⟩
    · rw [if_neg h, if_neg h, h1]
    · rw [if_neg (fun x => h (he.1 x)), Ideal.div_coe (by norm_num), sub_zero, ← EReal.coe_mul, one_div]

end

/-- A sum of numbers none below zero, scaled. -/
theorem sum_scale {ι : Type} (S : Finset ι) (f : ι → EReal) (hf : ∀ i, 0 ≤ f i) (k : EReal) : (∑ i ∈ S, f i) * k = ∑ i ∈ S, f i * k := by
  classical
  induction S using Finset.induction_on with
  | empty => simp
  | insert a S h ih => rw [Finset.sum_insert h, Finset.sum_insert h, EReal.right_distrib_of_nonneg (hf a) (Finset.sum_nonneg fun i _ => hf i), ih]

theorem lossV_nonneg (l : EReal) : 0 ≤ lossV l := by
  unfold lossV
  refine add_nonneg (le_max_right _ _) ?_
  have : 0 ≤ Real.log (1 + eR l) * kL := mul_nonneg (Real.log_nonneg (by linarith [eR_nonneg l])) (inv_nonneg.2 log2_pos.le)
  exact_mod_cast this

section
variable (X Y : ℕ → ℕ → Fin 768 → EReal) (t b : EReal) (n C : ℕ) (s : ℝ) (s' : ℕ → ℝ) (hs : 0 < s) (hs' : ∀ r, 0 < s' r)
include hs hs'

/-- A row's loss. -/
theorem loss_row : (∑ r ∈ Finset.range 8192, lossT X Y t b n r C) * ((Real.log 2 : ℝ) : EReal)
    = ∑ r : Fin 8192, softR (C = r.val) (tuR (X n C) (Y n r.val) (s : EReal) (s' r.val : EReal) t + b) := by
  rw [Finset.sum_range]
  unfold lossT
  rw [sum_scale _ _ fun r => lossV_nonneg _]
  exact Finset.sum_congr rfl fun r _ => loss_at (X n) (Y n) t b r.val C s (s' r.val) hs (hs' _) (C = r.val) eq_comm

/-- A row's share of the temperature's gradient. -/
theorem dt_row : (∑ r ∈ Finset.range 8192, dtT X Y t b n r C) * ((Real.log 2 * 8192⁻¹ : ℝ) : EReal)
    = ∑ r : Fin 8192, gradR (C = r.val) (tuR (X n C) (Y n r.val) (s : EReal) (s' r.val : EReal) t + b)
        * tuR (X n C) (Y n r.val) (s : EReal) (s' r.val : EReal) t := by
  have hk : (0 : ℝ) ≤ Real.log 2 * 8192⁻¹ := mul_nonneg log2_pos.le (by norm_num)
  rw [Finset.sum_range, sum_coe_scale _ _ _ hk]
  refine Finset.sum_congr rfl fun r _ => ?_
  obtain ⟨g, hg, hr⟩ := grad_at (X n) (Y n) t b r.val C s (s' r.val) hs (hs' _) (C = r.val) eq_comm
  rw [hr, score (X n) (Y n) t r.val C s (s' r.val) hs (hs' _)]
  unfold dtT
  rw [hg, EReal.coe_mul, EReal.coe_mul]
  ac_rfl

/-- A row's share of the bias's gradient. -/
theorem db_row : (∑ r ∈ Finset.range 8192, dbT X Y t b n r C) * ((8192⁻¹ : ℝ) : EReal)
    = ∑ r : Fin 8192, gradR (C = r.val) (tuR (X n C) (Y n r.val) (s : EReal) (s' r.val : EReal) t + b) := by
  choose g hg hr using fun r : ℕ => grad_at (X n) (Y n) t b r C s (s' r) hs (hs' r) (C = r) eq_comm
  have h1 : ∑ r ∈ Finset.range 8192, dbT X Y t b n r C = ((∑ r ∈ Finset.range 8192, g r : ℝ) : EReal) := by
    rw [coe_sum]
    refine Finset.sum_congr rfl fun r _ => ?_
    unfold dbT
    rw [hg]
  rw [h1, ← EReal.coe_mul, Finset.sum_mul, Finset.sum_range, coe_sum]
  exact Finset.sum_congr rfl fun r _ => (hr _).symm

end

end Cert.Proof.Logit

end
-- ==== Proof.Ideal.GradX.lean ====
/-
  The two ways of the gradient of a row of `x` agree: with the inverse norms taken into the factors and the projection made on the codes (the
  kernel), and with the normalised rows (the reference).
-/
module

public import proofs.«01_k».proof.Proof.Ideal.Logit
public import proofs.«01_k».proof.Proof.Ideal.PointXValue

@[expose] public section

set_option maxRecDepth 16384

noncomputable section

namespace Cert.Proof.Logit

open Cert.Proof.KernelIdeal Cert.Proof.ReferenceIdeal
open Idealize.ShloMosaic

/-- A row of codes has a real norm, is zero, or has no finite norm. -/
theorem row_cases (x : Fin 768 → EReal) (s : ℝ) (hs : 0 < s) :
    (∃ (f : Fin 768 → ℝ) (ρ : ℝ), 0 < ρ ∧ (∀ d, x d = (f d : EReal)) ∧ invN x = ((ρ⁻¹ : ℝ) : EReal) ∧ normR x (s : EReal) = ((s * ρ : ℝ) : EReal) ∧ ¬ ∀ d, x d = 0)
    ∨ ((∀ d, x d = 0) ∧ invN x = 1 ∧ normR x (s : EReal) = 1)
    ∨ (invN x = 0 ∧ normR x (s : EReal) = ⊤) := by
  rcases sumsq_cases x with ⟨f, hf⟩ | h
  · have e1 : ∑ d, x d * x d = ((∑ d, f d * f d : ℝ) : EReal) := by
      rw [coe_sum]; exact Finset.sum_congr rfl fun d _ => by rw [hf, EReal.coe_mul]
    have e2 : ∑ d, x d * (s : EReal) * (x d * (s : EReal)) = ((s * s * ∑ d, f d * f d : ℝ) : EReal) := by
      rw [Finset.mul_sum, coe_sum]
      exact Finset.sum_congr rfl fun d _ => by rw [hf, ← EReal.coe_mul, ← EReal.coe_mul]; congr 1; ring
    have hn : 0 ≤ ∑ d, f d * f d := Finset.sum_nonneg fun d _ => mul_self_nonneg _
    by_cases h0 : ∑ d, f d * f d = 0
    · right; left
      refine ⟨fun d => ?_, ?_, ?_⟩
      · have := (Finset.sum_eq_zero_iff_of_nonneg fun d _ => mul_self_nonneg (f d)).1 h0 d (Finset.mem_univ d)
        rw [hf, mul_self_eq_zero.1 this]; rfl
      · unfold invN
        rw [e1, h0, if_pos EReal.coe_zero]
      · unfold normR
        rw [e2, h0, mul_zero, Ideal.sqrt_coe, if_neg (lt_irrefl _), Real.sqrt_zero, if_pos EReal.coe_zero]
    · left
      have hp : 0 < ∑ d, f d * f d := lt_of_le_of_ne hn (Ne.symm h0)
      have hq : Real.sqrt (s * s * ∑ d, f d * f d) = s * Real.sqrt (∑ d, f d * f d) := by
        rw [Real.sqrt_mul (mul_self_nonneg s), Real.sqrt_mul_self hs.le]
      have hr : 0 < Real.sqrt (∑ d, f d * f d) := Real.sqrt_pos.2 hp
      have hne : s * Real.sqrt (∑ d, f d * f d) ≠ 0 := (mul_pos hs hr).ne'
      refine ⟨f, Real.sqrt (∑ d, f d * f d), hr, hf, ?_, ?_, fun h => h0 ?_⟩
      · unfold invN
        rw [e1, if_neg (by exact_mod_cast h0), Ideal.rsqrt_coe, if_neg (not_lt.2 hn), if_neg h0]
        try rw [one_div]
      · unfold normR
        rw [e2, Ideal.sqrt_coe, if_neg (not_lt.2 (mul_nonneg (mul_self_nonneg s) hn)), hq, if_neg (by exact_mod_cast hne)]
      · refine Finset.sum_eq_zero fun d _ => ?_
        have h1 : (f d : EReal) = 0 := (hf d).symm.trans (h d)
        have h2 : f d = 0 := by exact_mod_cast h1
        rw [h2, mul_zero]
  · right; right
    have h1 : ∑ d, x d * x d = ⊤ := by simpa using h 1 one_pos
    refine ⟨by unfold invN; rw [h1]; simp, ?_⟩
    unfold normR
    rw [h s hs]
    simp

theorem div_top (x : EReal) : Ideal.div x ⊤ = 0 := by simp [Ideal.div]
theorem div_one' (x : EReal) : Ideal.div x 1 = x := by
  rw [← EReal.coe_one, Ideal.div_coe one_ne_zero, one_div, inv_one, EReal.coe_one, mul_one]

/-- A row of `y` enters both products as the same real row. -/
theorem unit_row (y : Fin 768 → EReal) (s : ℝ) (hs : 0 < s) : ∃ w : Fin 768 → ℝ,
    (∀ (d : Fin 768) (g q : ℝ), y d * ((g : EReal) * (invN y * (q : EReal))) = ((g * w d * q : ℝ) : EReal))
    ∧ ∀ (d : Fin 768) (g : ℝ), Ideal.div (g : EReal) (normR y (s : EReal)) * (y d * (s : EReal)) = ((g * w d : ℝ) : EReal) := by
  rcases row_cases y s hs with ⟨f, ρ, hρ, hf, hi, hn, -⟩ | ⟨h0, hi, hn⟩ | ⟨hi, hn⟩
  · refine ⟨fun d => f d * ρ⁻¹, fun d g q => ?_, fun d g => ?_⟩
    · rw [hf, hi, ← EReal.coe_mul, ← EReal.coe_mul, ← EReal.coe_mul]
      congr 1; ring
    · have hne : s * ρ ≠ 0 := (mul_pos hs hρ).ne'
      rw [hf, hn, Ideal.div_coe hne, ← EReal.coe_mul, ← EReal.coe_mul, ← EReal.coe_mul]
      congr 1
      have := hs.ne'; have := hρ.ne'
      field_simp
  · refine ⟨fun _ => 0, fun d g q => ?_, fun d g => ?_⟩
    · rw [h0, zero_mul]; simp
    · rw [h0, zero_mul, mul_zero]; simp
  · refine ⟨fun _ => 0, fun d g q => ?_, fun d g => ?_⟩
    · rw [hi, zero_mul, mul_zero, mul_zero]; simp
    · rw [hn, div_top, zero_mul]; simp

/-- The exponential of a number below infinity is a real number. -/
theorem exp_real (t : EReal) (ht : t ≠ ⊤) : ∃ τ : ℝ, Ideal.exp t = (τ : EReal) := by
  induction t with
  | bot => exact ⟨0, by simp⟩
  | top => exact absurd rfl ht
  | coe t => exact ⟨Real.exp t, Ideal.exp_coe t⟩

section
variable (X Y : ℕ → Fin 768 → EReal) (t b : EReal) (C : ℕ) (s : ℝ) (s' : ℕ → ℝ) (hs : 0 < s) (hs' : ∀ r, 0 < s' r) (ht : t ≠ ⊤)
include hs hs' ht

/-- The gradient of a row of `x`. -/
theorem dx_row (d : Fin 768) :
    projK (X C) (fun e => ∑ r ∈ Finset.range 8192, gxT X Y t b e r C) (s : EReal) d
      = projR (X C) (fun e => Ideal.exp t * ∑ r : Fin 8192, Ideal.div (gradR (C = r.val) (tuR (X C) (Y r.val) (s : EReal) (s' r.val : EReal) t + b)) (normR (Y r.val) (s' r.val : EReal))
          * (Y r.val e * (s' r.val : EReal))) (s : EReal) d := by
  choose g hg hr using fun r : ℕ => grad_at X Y t b r C s (s' r) hs (hs' r) (C = r) eq_comm
  choose w hw hw' using fun r : ℕ => unit_row (Y r) (s' r) (hs' r)
  obtain ⟨τ, hτ⟩ := exp_real t ht
  have h2 := log2_pos
  -- the kernel's product, of a row with the inverse norm `i`
  have hK : ∀ i : ℝ, invN (X C) = (i : EReal) → (fun e => ∑ r ∈ Finset.range 8192, gxT X Y t b e r C)
      = fun e => (((∑ r ∈ Finset.range 8192, g r * w r e) * (i * (τ * kL)) : ℝ) : EReal) := fun i hi => by
    funext e
    rw [Finset.sum_mul, coe_sum]
    refine Finset.sum_congr rfl fun r _ => ?_
    unfold gxT hG
    rw [hg, hi, hτ, ← EReal.coe_mul, ← EReal.coe_mul, hw]
  -- the reference's
  have hRef : (fun e => Ideal.exp t * ∑ r : Fin 8192, Ideal.div (gradR (C = r.val) (tuR (X C) (Y r.val) (s : EReal) (s' r.val : EReal) t + b)) (normR (Y r.val) (s' r.val : EReal))
          * (Y r.val e * (s' r.val : EReal))) = fun e => (((∑ r ∈ Finset.range 8192, g r * w r e) * (8192⁻¹ * τ) : ℝ) : EReal) := by
    funext e
    rw [hτ, show (∑ r : Fin 8192, Ideal.div (gradR (C = r.val) (tuR (X C) (Y r.val) (s : EReal) (s' r.val : EReal) t + b)) (normR (Y r.val) (s' r.val : EReal))
          * (Y r.val e * (s' r.val : EReal))) = (((∑ r ∈ Finset.range 8192, g r * w r e) * 8192⁻¹ : ℝ) : EReal) from ?_, ← EReal.coe_mul]
    · congr 1; ring
    · rw [Finset.sum_mul, Finset.sum_range, coe_sum]
      refine Finset.sum_congr rfl fun r _ => ?_
      rw [hr, hw']
      congr 1; ring
  rw [hRef]
  have hk : kL = (Real.log 2)⁻¹ := rfl
  rcases row_cases (X C) s hs with ⟨f, ρ, hρ, hf, hi, hn, h0⟩ | ⟨h0, hi, hn⟩ | ⟨hi, hn⟩
  · rw [hK _ hi]
    have hne : s * ρ ≠ 0 := (mul_pos hs hρ).ne'
    unfold projK projR
    rw [if_neg h0, hi, hn]
    simp only [hf, Ideal.div_coe hne, Ideal.div_coe hs.ne', ← EReal.coe_mul, ← coe_sum, ← EReal.coe_sub]
    congr 1
    have e1 : ∀ S : Fin 768 → ℝ, ∑ e, f e * (S e * (ρ⁻¹ * (τ * kL))) = (∑ e, f e * S e) * (ρ⁻¹ * (τ * kL)) := fun S => by
      rw [Finset.sum_mul]; exact Finset.sum_congr rfl fun e _ => by ring
    have e2 : ∀ S : Fin 768 → ℝ, ∑ e, f e * s * (1 / (s * ρ)) * (S e * (8192⁻¹ * τ)) = (∑ e, f e * S e) * (s * (1 / (s * ρ)) * (8192⁻¹ * τ)) := fun S => by
      rw [Finset.sum_mul]; exact Finset.sum_congr rfl fun e _ => by ring
    rw [e1 (fun e => ∑ r ∈ Finset.range 8192, g r * w r e), e2 (fun e => ∑ r ∈ Finset.range 8192, g r * w r e), hk]
    have := hs.ne'; have := hρ.ne'; have := h2.ne'
    field_simp
  · rw [hK 1 (by rw [hi, EReal.coe_one])]
    unfold projK projR
    rw [if_pos h0, hn]
    simp only [h0, zero_mul, div_one', Finset.sum_const_zero, mul_zero, sub_zero]
    rw [← EReal.coe_mul]
    congr 1
    rw [hk]
    have := h2.ne'
    field_simp
  · rw [hK 0 (by rw [hi, EReal.coe_zero])]
    unfold projK projR
    rw [hn, hi]
    simp only [zero_mul, mul_zero, EReal.coe_zero, div_top, Finset.sum_const_zero, sub_zero]

end

end Cert.Proof.Logit

end
-- ==== Proof.Ideal.RefRows.lean ====
/-
  The reference's run: its row results, element by element, in the launch's memory.
-/
module

public import proofs.«01_k».proof.Proof.Ideal.RefValue
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (c : Dev nD)

/-- An input window's block is the array: the codes and the scales of `x` and of `y`. -/
theorem iblk2 (t : Fin cfg0.N) : iblk m c 2 t = m ((c : Thread nD τ).loc main_arg0) := by
  rw [← V_main_arg0 m c]
  funext j
  blk_simp [iblk]
  refine congrArg (V m c main_arg0) (funext fun a => Fin.ext ?_)
  exact Pipeline.Window.rect_emb_val_of_index_zero win0_2 t a rfl j
theorem iblk3 (t : Fin cfg0.N) : iblk m c 3 t = m ((c : Thread nD τ).loc main_arg1) := by
  rw [← V_main_arg1 m c]
  funext j
  blk_simp [iblk]
  refine congrArg (V m c main_arg1) (funext fun a => Fin.ext ?_)
  exact Pipeline.Window.rect_emb_val_of_index_zero win0_3 t a rfl j
theorem iblk4 (t : Fin cfg0.N) : iblk m c 4 t = m ((c : Thread nD τ).loc main_arg2) := by
  rw [← V_main_arg2 m c]
  funext j
  blk_simp [iblk]
  refine congrArg (V m c main_arg2) (funext fun a => Fin.ext ?_)
  exact Pipeline.Window.rect_emb_val_of_index_zero win0_4 t a rfl j
theorem iblk5 (t : Fin cfg0.N) : iblk m c 5 t = m ((c : Thread nD τ).loc main_arg3) := by
  rw [← V_main_arg3 m c]
  funext j
  blk_simp [iblk]
  refine congrArg (V m c main_arg3) (funext fun a => Fin.ext ?_)
  exact Pipeline.Window.rect_emb_val_of_index_zero win0_5 t a rfl j

theorem V_v0 : V m c main_v0 (ix1 (0 : Fin 1)) = m ((c : Thread nD τ).loc main_arg4) ix0 := by
  have e : V m c main_v0 = shapeCast S1 (m ((c : Thread nD τ).loc main_arg4)) shapeCasts_S_S1 := by
    show StableHlo.after hostOps0 _ (Proc.devRef .tc main_v0) = _
    after_results
    rfl
  rw [e]
  pointwise
theorem V_v1 : V m c main_v1 (ix1 (0 : Fin 1)) = m ((c : Thread nD τ).loc main_arg5) ix0 := by
  have e : V m c main_v1 = shapeCast S1 (m ((c : Thread nD τ).loc main_arg5)) shapeCasts_S_S1 := by
    show StableHlo.after hostOps0 _ (Proc.devRef .tc main_v1) = _
    after_results
    rfl
  rw [e]
  pointwise

/-- The temperature and the bias. -/
theorem iblk0 (t : Fin cfg0.N) : iblk m c 0 t (ix1 (0 : Fin 1)) = m ((c : Thread nD τ).loc main_arg4) ix0 := by
  rw [← V_v0 m c]
  blk_simp [iblk]
  refine congrArg (V m c main_v0) (funext fun a => Fin.ext ?_)
  exact Pipeline.Window.rect_emb_val_of_index_zero win0_0 t a rfl (ix1 (0 : Fin 1))
theorem iblk1 (t : Fin cfg0.N) : iblk m c 1 t (ix1 (0 : Fin 1)) = m ((c : Thread nD τ).loc main_arg5) ix0 := by
  rw [← V_v1 m c]
  blk_simp [iblk]
  refine congrArg (V m c main_v1) (funext fun a => Fin.ext ?_)
  exact Pipeline.Window.rect_emb_val_of_index_zero win0_1 t a rfl (ix1 (0 : Fin 1))

/-- The one point. -/
def t0 : Fin cfg0.N := ⟨0, by decide⟩

/-- The scaled score of rows `C` of `x` and `r` of `y`, batch `n`. -/
def tuA (n : Fin 2) (C r : Fin 8192) : EReal :=
  tuR (fun d => m ((c : Thread nD τ).loc main_arg0) (ix3 n C d)) (fun d => m ((c : Thread nD τ).loc main_arg2) (ix3 n r d))
    (m ((c : Thread nD τ).loc main_arg1) (ix2 n C)) (m ((c : Thread nD τ).loc main_arg3) (ix2 n r)) (m ((c : Thread nD τ).loc main_arg4) ix0)

/-- The codes of row `r` of `y`, batch `n`, and its scale. -/
def codeY (n : Fin 2) (r : Fin 8192) (e : Fin 768) : EReal := m ((c : Thread nD τ).loc main_arg2) (ix3 n r e)
def scaleY (n : Fin 2) (r : Fin 8192) : EReal := m ((c : Thread nD τ).loc main_arg3) (ix2 n r)

/-- The loss after the run. -/
theorem final6 (n : Fin 2) (C : Fin 8192) : (dats m 0 c).arrAt 6 cfg0.N (ix3 n (0 : Fin 1) C)
    = ∑ r : Fin 8192, softR (C = r) (tuA m c n C r + m ((c : Thread nD τ).loc main_arg5) ix0) := by
  have e := (dats m 0 c).arrAt_emb_eq_after_last 6 t0 (by decide +kernel) (ix3 n (0 : Fin 1) C)
  refine Eq.trans ?_ (e.trans ?_)
  · rfl
  · show (dats m 0 c).after 6 t0 (ix3 n (0 : Fin 1) C) = _
    rw [after0_6]
    unfold outsAt0
    dsimp only
    rw [out6, iblk0, iblk1, iblk2, iblk3, iblk4, iblk5]
    exact pay12_at _ _ _ _ _ _ n C

/-- The gradient of `x` after the run. -/
theorem final7 (n : Fin 2) (C : Fin 8192) (d : Fin 768) : (dats m 0 c).arrAt 7 cfg0.N (ix3 n C d)
    = projR (fun d => m ((c : Thread nD τ).loc main_arg0) (ix3 n C d)) (fun e => Ideal.exp (m ((c : Thread nD τ).loc main_arg4) ix0) * ∑ r : Fin 8192,
        Ideal.div (gradR (C = r) (tuA m c n C r + m ((c : Thread nD τ).loc main_arg5) ix0)) (normR (codeY m c n r) (scaleY m c n r)) * (codeY m c n r e * scaleY m c n r)) (m ((c : Thread nD τ).loc main_arg1) (ix2 n C)) d := by
  have e := (dats m 0 c).arrAt_emb_eq_after_last 7 t0 (by decide +kernel) (ix3 n C d)
  refine Eq.trans ?_ (e.trans ?_)
  · rfl
  · show (dats m 0 c).after 7 t0 (ix3 n C d) = _
    rw [after0_7]
    unfold outsAt0
    dsimp only
    rw [out7, iblk0, iblk1, iblk2, iblk3, iblk4, iblk5]
    exact pay16_at _ _ _ _ _ _ n C d

/-- The temperature's gradient after the run. -/
theorem final9 (n : Fin 2) (C : Fin 8192) : (dats m 0 c).arrAt 9 cfg0.N (ix3 n (0 : Fin 1) C)
    = ∑ r : Fin 8192, gradR (C = r) (tuA m c n C r + m ((c : Thread nD τ).loc main_arg5) ix0) * tuA m c n C r := by
  have e := (dats m 0 c).arrAt_emb_eq_after_last 9 t0 (by decide +kernel) (ix3 n (0 : Fin 1) C)
  refine Eq.trans ?_ (e.trans ?_)
  · rfl
  · show (dats m 0 c).after 9 t0 (ix3 n (0 : Fin 1) C) = _
    rw [after0_9]
    unfold outsAt0
    dsimp only
    rw [out9, iblk0, iblk1, iblk2, iblk3, iblk4, iblk5]
    exact pay14_at _ _ _ _ _ _ n C

/-- The bias's gradient after the run. -/
theorem final10 (n : Fin 2) (C : Fin 8192) : (dats m 0 c).arrAt 10 cfg0.N (ix3 n (0 : Fin 1) C)
    = ∑ r : Fin 8192, gradR (C = r) (tuA m c n C r + m ((c : Thread nD τ).loc main_arg5) ix0) := by
  have e := (dats m 0 c).arrAt_emb_eq_after_last 10 t0 (by decide +kernel) (ix3 n (0 : Fin 1) C)
  refine Eq.trans ?_ (e.trans ?_)
  · rfl
  · show (dats m 0 c).after 10 t0 (ix3 n (0 : Fin 1) C) = _
    rw [after0_10]
    unfold outsAt0
    dsimp only
    rw [out10, iblk0, iblk1, iblk2, iblk3, iblk4, iblk5]
    exact pay15_at _ _ _ _ _ _ n C

end Cert.Proof.ReferenceIdeal

end
-- ==== Proof.Ideal.Agree.lean ====
/-
  The kernel's row results are the reference's, under the precondition: the scales are positive real numbers.
-/
module

public import proofs.«01_k».proof.Defs
public import proofs.«01_k».proof.Proof.Ideal.GradX
public import proofs.«01_k».proof.Proof.Ideal.Blocks
public import proofs.«01_k».proof.Proof.Ideal.RefRows
public import Idealize.ShloMosaic.Lib.ReduceAll

@[expose] public section

set_option maxRecDepth 16384

noncomputable section

namespace Cert.Proof

open Idealize.ShloMosaic Idealize.ShloMosaic.TcCoe
open Cert.Proof.KernelIdeal Cert.Proof.ReferenceIdeal

theorem cmp_ogt {x y : EReal} (h : Ideal.cmp .ogt x y = 1#1) : y < x := by
  unfold Ideal.cmp at h
  by_contra hn
  simp [hn] at h

theorem cmp_olt {x y : EReal} (h : Ideal.cmp .olt x y = 1#1) : x < y := by
  unfold Ideal.cmp at h
  by_contra hn
  simp [hn] at h

theorem ofBits_inf : Ideal.ofBits .f32 0x7F800000#32 = ⊤ := by simp [Ideal.ofBits, Ideal.ieee]

/-- What the precondition says. -/
theorem pre_says [Cert.Pre_pre.Facts] (a0 : FVec Ideal Cert.Pre_pre.S2x8192x768 .fp8e4m3) (a1 : FVec Ideal Cert.Pre_pre.S2x8192 .f32)
    (a2 : FVec Ideal Cert.Pre_pre.S2x8192x768 .fp8e4m3) (a3 : FVec Ideal Cert.Pre_pre.S2x8192 .f32) (a4 a5 : FVec Ideal Cert.Pre_pre.S_ .f32)
    (h : Cert.Pre_pre.fn (F := Ideal) a0 a1 a2 a3 a4 a5 = fun _ => 1#1) :
    (∀ i, (0 : EReal) < a1 i ∧ a1 i < (⊤ : EReal)) ∧ (∀ i, (0 : EReal) < a3 i ∧ a3 i < (⊤ : EReal)) := by
  have e := congrFun h ix0
  unfold Cert.Pre_pre.fn at e
  dsimp only at e
  obtain ⟨e, e4⟩ := IntOp.andi_eq_one.1 e
  obtain ⟨e, e3⟩ := IntOp.andi_eq_one.1 e
  obtain ⟨e1, e2⟩ := IntOp.andi_eq_one.1 e
  haveI : Subsingleton Cert.Pre_pre.S_.Idx := ⟨fun a b => funext fun k => k.elim0⟩
  refine ⟨fun i => ⟨?_, ?_⟩, fun i => ⟨?_, ?_⟩⟩
  · have := cmp_ogt (Host.reduce_andi_all _ _ _ _ _ e1 i)
    rwa [show (broadcastInDim Cert.Pre_pre.S2x8192 ![] _ (constant (F := Ideal) Cert.Pre_pre.S_ .f32 0x00000000#32) i : EReal) = 0 from Ideal.ofBits_zero_f32] at this
  · exact (cmp_olt (Host.reduce_andi_all _ _ _ _ _ e2 i)).trans_eq ofBits_inf
  · have := cmp_ogt (Host.reduce_andi_all _ _ _ _ _ e3 i)
    rwa [show (broadcastInDim Cert.Pre_pre.S2x8192 ![] _ (constant (F := Ideal) Cert.Pre_pre.S_ .f32 0x00000000#32) i : EReal) = 0 from Ideal.ofBits_zero_f32] at this
  · exact (cmp_olt (Host.reduce_andi_all _ _ _ _ _ e4 i)).trans_eq ofBits_inf

/-- What the precondition of the gradients says. -/
theorem pre_gradients_says [Cert.Pre_pre_gradients.Facts] (a0 : FVec Ideal Cert.Pre_pre_gradients.S2x8192x768 .fp8e4m3) (a1 : FVec Ideal Cert.Pre_pre_gradients.S2x8192 .f32)
    (a2 : FVec Ideal Cert.Pre_pre_gradients.S2x8192x768 .fp8e4m3) (a3 : FVec Ideal Cert.Pre_pre_gradients.S2x8192 .f32) (a4 a5 : FVec Ideal Cert.Pre_pre_gradients.S_ .f32)
    (h : Cert.Pre_pre_gradients.fn (F := Ideal) a0 a1 a2 a3 a4 a5 = fun _ => 1#1) :
    (∀ i, (0 : EReal) < a1 i ∧ a1 i < (⊤ : EReal)) ∧ (∀ i, (0 : EReal) < a3 i ∧ a3 i < (⊤ : EReal)) ∧ (a4 ix0 : EReal) ≠ ⊤ := by
  have e := congrFun h ix0
  unfold Cert.Pre_pre_gradients.fn at e
  dsimp only at e
  unfold Cert.Pre_pre_gradients.fn_part1 at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton Cert.Pre_pre_gradients.S_.Idx := ⟨fun a b => funext fun k => k.elim0⟩
  refine ⟨fun i => ⟨?_, ?_⟩, fun i => ⟨?_, ?_⟩, ?_⟩
  · have := cmp_ogt (Host.reduce_andi_all _ _ _ _ _ e1 i)
    rwa [show (broadcastInDim Cert.Pre_pre_gradients.S2x8192 ![] _ (constant (F := Ideal) Cert.Pre_pre_gradients.S_ .f32 0x00000000#32) i : EReal) = 0 from Ideal.ofBits_zero_f32] at this
  · exact (cmp_olt (Host.reduce_andi_all _ _ _ _ _ e2 i)).trans_eq ofBits_inf
  · have := cmp_ogt (Host.reduce_andi_all _ _ _ _ _ e3 i)
    rwa [show (broadcastInDim Cert.Pre_pre_gradients.S2x8192 ![] _ (constant (F := Ideal) Cert.Pre_pre_gradients.S_ .f32 0x00000000#32) i : EReal) = 0 from Ideal.ofBits_zero_f32] at this
  · exact (cmp_olt (Host.reduce_andi_all _ _ _ _ _ e4 i)).trans_eq ofBits_inf
  · exact ((cmp_olt e5).trans_eq ofBits_inf).ne

/-- The softplus and the gradient read their condition only as a proposition. -/
theorem softR_congr {e e' : Prop} [Decidable e] [Decidable e'] (h : e ↔ e') (l : EReal) : softR e l = softR e' l := by
  unfold softR
  by_cases he : e
  · simp only [if_pos he, if_pos (h.1 he)]
  · simp only [if_neg he, if_neg fun x => he (h.2 x)]
theorem gradR_congr {e e' : Prop} [Decidable e] [Decidable e'] (h : e ↔ e') (l : EReal) : gradR e l = gradR e' l := by
  unfold gradR
  by_cases he : e
  · simp only [if_pos he, if_pos (h.1 he)]
  · simp only [if_neg he, if_neg fun x => he (h.2 x)]

/-- A projected gradient of equal parts. -/
theorem projR_congr {x x' g g' : Fin 768 → EReal} {s s' : EReal} (hx : x = x') (hg : g = g') (hs : s = s') (d : Fin 768) : projR x g s d = projR x' g' s' d := by
  subst hx hg hs; rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The scales of `x` and of `y`. -/
def argSx : Cert.Pre_pre.S2x8192.Idx → EReal := m ((c.tc : Thread Cert.KernelIdeal.nD Cert.KernelIdeal.τ).loc Cert.KernelIdeal.main_arg1)
def argSy : Cert.Pre_pre.S2x8192.Idx → EReal := m ((c.tc : Thread Cert.KernelIdeal.nD Cert.KernelIdeal.τ).loc Cert.KernelIdeal.main_arg3)

/-- The two launches have the same arguments, and the precondition holds of them. -/
structure Same : Prop where
  h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  sx : ∀ i : Cert.Pre_pre.S2x8192.Idx, (0 : EReal) < argSx m c i
    ∧ argSx m c i < (⊤ : EReal)
  sy : ∀ i : Cert.Pre_pre.S2x8192.Idx, (0 : EReal) < argSy m c i
    ∧ argSy m c i < (⊤ : EReal)

/-- A positive number below infinity is a positive real number. -/
theorem real_of {x : EReal} (h : 0 < x ∧ x < ⊤) : ((x.toReal : ℝ) : EReal) = x ∧ 0 < x.toReal := by
  have e : ((x.toReal : ℝ) : EReal) = x := EReal.coe_toReal h.2.ne (EReal.bot_lt_zero.trans h.1).ne'
  refine ⟨e, ?_⟩
  have := h.1
  rw [← e] at this
  exact_mod_cast this

variable {m m' c} (S : Same m m' c) (n : Fin 2) (C : Fin 8192)
include S

theorem bias_eq : argB m c = m' ((c.tc : Thread Cert.ReferenceIdeal.nD Cert.ReferenceIdeal.τ).loc Cert.ReferenceIdeal.main_arg5) ix0 :=
  (congrFun S.h5 ix0).symm

/-- The reference's scaled scores, at real scales. -/
theorem scores : ∃ (s : ℝ) (s' : ℕ → ℝ), 0 < s ∧ (∀ r, 0 < s' r) ∧ (s : EReal) = argSx m c (ix2 n C) ∧ (∀ r : Fin 8192, (s' r.val : EReal) = argSy m c (ix2 n r)) ∧ ∀ r : Fin 8192,
    tuR (argX m c n.val C.val) (argY m c n.val r.val) (s : EReal) (s' r.val : EReal) (argT m c) = tuA m' c n C r := by
  refine ⟨(argSx m c (ix2 n C)).toReal,
    fun r => if h : r < 8192 then (argSy m c (ix2 n (⟨r, h⟩ : Fin 8192))).toReal else 1,
    (real_of (S.sx (ix2 n C))).2, fun r => ?_, (real_of (S.sx (ix2 n C))).1, fun r => ?_, fun r => ?_⟩
  · by_cases h : r < 8192
    · simp only [dif_pos h]
      exact (real_of (S.sy (ix2 n (⟨r, h⟩ : Fin 8192)))).2
    · simp only [dif_neg h]
      exact one_pos
  · simp only [dif_pos r.isLt]
    exact (real_of (S.sy (ix2 n (⟨r.val, r.isLt⟩ : Fin 8192)))).1
  · simp only [dif_pos r.isLt]
    have e1 := (real_of (S.sx (ix2 n C))).1
    have e2 := (real_of (S.sy (ix2 n (⟨r.val, r.isLt⟩ : Fin 8192)))).1
    rw [e1, e2]
    unfold tuA
    rw [S.h0, S.h1, S.h2, S.h3, S.h4]
    have ex : argX m c n.val C.val = fun d => m ((c.tc : Thread Cert.KernelIdeal.nD Cert.KernelIdeal.τ).loc Cert.KernelIdeal.main_arg0) (ix3 n C d) := by
      funext d
      unfold argX rowsOf
      rw [dif_pos ⟨n.isLt, C.isLt⟩]
    have ey : argY m c n.val r.val = fun d => m ((c.tc : Thread Cert.KernelIdeal.nD Cert.KernelIdeal.τ).loc Cert.KernelIdeal.main_arg2) (ix3 n r d) := by
      funext d
      unfold argY rowsOf
      rw [dif_pos ⟨n.isLt, r.isLt⟩]
    rw [ex, ey]
    rfl

/-- The losses agree. -/
theorem agree6 : (∑ r ∈ Finset.range 8192, lossT (argX m c) (argY m c) (argT m c) (argB m c) n.val r C.val) * ((Real.log 2 : ℝ) : EReal)
    = ∑ r : Fin 8192, softR (C = r) (tuA m' c n C r + m' ((c.tc : Thread Cert.ReferenceIdeal.nD Cert.ReferenceIdeal.τ).loc Cert.ReferenceIdeal.main_arg5) ix0) := by
  obtain ⟨s, s', hs, hs', _, _, h⟩ := scores S n C
  rw [Logit.loss_row (argX m c) (argY m c) (argT m c) (argB m c) n.val C.val s s' hs hs']
  refine Finset.sum_congr rfl fun r _ => ?_
  rw [h r, ← bias_eq S]
  exact softR_congr Fin.ext_iff.symm _

/-- The temperature's gradients agree. -/
theorem agree9 : (∑ r ∈ Finset.range 8192, dtT (argX m c) (argY m c) (argT m c) (argB m c) n.val r C.val) * ((Real.log 2 * 8192⁻¹ : ℝ) : EReal)
    = ∑ r : Fin 8192, gradR (C = r) (tuA m' c n C r + m' ((c.tc : Thread Cert.ReferenceIdeal.nD Cert.ReferenceIdeal.τ).loc Cert.ReferenceIdeal.main_arg5) ix0) * tuA m' c n C r := by
  obtain ⟨s, s', hs, hs', _, _, h⟩ := scores S n C
  rw [Logit.dt_row (argX m c) (argY m c) (argT m c) (argB m c) n.val C.val s s' hs hs']
  refine Finset.sum_congr rfl fun r _ => ?_
  rw [h r, ← bias_eq S]
  exact congrArg (· * tuA m' c n C r) (gradR_congr Fin.ext_iff.symm _)

/-- The bias's gradients agree. -/
theorem agree10 : (∑ r ∈ Finset.range 8192, dbT (argX m c) (argY m c) (argT m c) (argB m c) n.val r C.val) * ((8192⁻¹ : ℝ) : EReal)
    = ∑ r : Fin 8192, gradR (C = r) (tuA m' c n C r + m' ((c.tc : Thread Cert.ReferenceIdeal.nD Cert.ReferenceIdeal.τ).loc Cert.ReferenceIdeal.main_arg5) ix0) := by
  obtain ⟨s, s', hs, hs', _, _, h⟩ := scores S n C
  rw [Logit.db_row (argX m c) (argY m c) (argT m c) (argB m c) n.val C.val s s' hs hs']
  refine Finset.sum_congr rfl fun r _ => ?_
  rw [h r, ← bias_eq S]
  exact gradR_congr Fin.ext_iff.symm _

/-- The gradients of `x` agree, where the temperature is not infinite. -/
theorem agree7 (ht : argT m c ≠ ⊤) (d : Fin 768) :
    projK (argX m c n.val C.val) (fun e => ∑ r ∈ Finset.range 8192, gxT (argX m c n.val) (argY m c n.val) (argT m c) (argB m c) e r C.val) (argS m c n.val C.val) d
    = projR (fun d => m' ((c.tc : Thread Cert.ReferenceIdeal.nD Cert.ReferenceIdeal.τ).loc Cert.ReferenceIdeal.main_arg0) (ix3 n C d))
        (fun e => Ideal.exp (m' ((c.tc : Thread Cert.ReferenceIdeal.nD Cert.ReferenceIdeal.τ).loc Cert.ReferenceIdeal.main_arg4) ix0) * ∑ r : Fin 8192,
          Ideal.div (gradR (C = r) (tuA m' c n C r + m' ((c.tc : Thread Cert.ReferenceIdeal.nD Cert.ReferenceIdeal.τ).loc Cert.ReferenceIdeal.main_arg5) ix0))
            (normR (codeY m' c n r) (scaleY m' c n r)) * (codeY m' c n r e * scaleY m' c n r))
        (m' ((c.tc : Thread Cert.ReferenceIdeal.nD Cert.ReferenceIdeal.τ).loc Cert.ReferenceIdeal.main_arg1) (ix2 n C)) d := by
  obtain ⟨s, s', hs, hs', es, es', h⟩ := scores S n C
  have ea : argS m c n.val C.val = (s : EReal) := by
    rw [es]
    unfold argS
    rw [dif_pos ⟨n.isLt, C.isLt⟩]
    rfl
  rw [ea, Logit.dx_row (argX m c n.val) (argY m c n.val) (argT m c) (argB m c) C.val s s' hs hs' ht d]
  refine projR_congr ?_ (funext fun e => congrArg₂ (· * ·) (congrArg Ideal.exp (congrFun S.h4 ix0).symm) (Finset.sum_congr rfl fun r _ => ?_)) ?_ d
  · rw [S.h0]
    funext d
    unfold argX rowsOf
    rw [dif_pos ⟨n.isLt, C.isLt⟩]
  · have ey : codeY m' c n r = argY m c n.val r.val := by
      funext d
      unfold codeY argY rowsOf
      rw [dif_pos ⟨n.isLt, r.isLt⟩, S.h2]
    have ez : scaleY m' c n r = (s' r.val : EReal) := by
      rw [es']
      unfold scaleY
      rw [S.h3]
      rfl
    rw [ey, ez, h r, ← bias_eq S]
    exact congrArg (fun q => Ideal.div q _ * _) (gradR_congr Fin.ext_iff.symm _)
  · rw [es, S.h1]
    rfl

end

/-- An index of a row result. -/
theorem row_idx (i : (⟨3, ![2, 1, 8192]⟩ : Shape).Idx) : ∃ (n : Fin 2) (C : Fin 8192), i = ix3 n (0 : Fin 1) C :=
  ⟨i 0, i 2, funext fun a => by fin_cases a <;> first | rfl | exact Subsingleton.elim (α := Fin 1) _ _⟩

/-- An index of a gradient. -/
theorem grad_idx (i : (⟨3, ![2, 8192, 768]⟩ : Shape).Idx) : ∃ (n : Fin 2) (C : Fin 8192) (d : Fin 768), i = ix3 n C d :=
  ⟨i 0, i 1, i 2, funext fun a => by fin_cases a <;> rfl⟩

end Cert.Proof

end
-- ==== Proof.lean ====
module

public import proofs.«01_k».proof.Proof.Gen.ReferenceIdeal.Value
public import proofs.«01_k».proof.Defs
public import proofs.«01_k».proof.Proof.Gen.Pre_pre
public import proofs.«01_k».proof.Proof.Gen.Pre_pre_gradients
public import proofs.«01_k».proof.Proof.Gen.On_row_results
public import proofs.«01_k».proof.Proof.Gen.On_gradients
public import proofs.«01_k».proof.Proof.Kernel.Frame
public import proofs.«01_k».proof.Proof.Ideal.Frame
public import proofs.«01_k».proof.Proof.Ideal.Rows
public import proofs.«01_k».proof.Proof.Ideal.Agree
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem
open Cert.Proof.KernelIdeal

/-- The three constants the idealized kernel names are the real numbers that they stand for. -/
theorem preserves : Cert.preserves_Kernel_KernelIdeal :=
  ⟨IdealRules.named_const.statement Cert.KernelIdeal.κ "log2_e" .f32 0x3FB8AA3B#32 _ rfl,
    IdealRules.named_const.statement Cert.KernelIdeal.κ "ln_2" .f32 0x3F317218#32 _ rfl,
    IdealRules.named_const.statement Cert.KernelIdeal.κ "ln_2_over_seq" .f32 0x38B17218#32 _ rfl⟩

/-- Of the same arguments, the idealized kernel and the reference end with the same loss, the same temperature's gradient and the same bias's
    gradient for every row, where the scales are positive and finite. -/
theorem row_results : Cert.algebraic_KernelIdeal_ReferenceIdeal_on_row_results_pre_pre := by
  intro m g m' g' hp h
  have S : ∀ c, Same m m' c := fun c =>
    have d := pre_says _ _ _ _ _ _ (hp c)
    ⟨(h c).1, (h c).2.1, (h c).2.2.1, (h c).2.2.2.1, (h c).2.2.2.2.1, (h c).2.2.2.2.2, d.1, d.2⟩
  refine ⟨fun c i => (∑ r ∈ Finset.range 8192, lossT (argX m c) (argY m c) (argT m c) (argB m c) (i 0).val r (i 2).val) * ((Real.log 2 : ℝ) : EReal),
    fun c _ => (0 : EReal), fun c _ => (0 : EReal),
    fun c i => (∑ r ∈ Finset.range 8192, dtT (argX m c) (argY m c) (argT m c) (argB m c) (i 0).val r (i 2).val) * ((Real.log 2 * 8192⁻¹ : ℝ) : EReal),
    fun c i => (∑ r ∈ Finset.range 8192, dbT (argX m c) (argY m c) (argT m c) (argB m c) (i 0).val r (i 2).val) * ((8192⁻¹ : ℝ) : EReal), ?_, ?_⟩
  · refine (θ_run _ _ _).mono (fun r H c => ?_) (run_rows m g)
    obtain ⟨r6, r9, r10, _, args⟩ := H c
    refine ⟨fun i _ => ?_, fun i e => absurd (show (0#1 : BitVec 1) = 1#1 from e) (by decide), fun i e => absurd (show (0#1 : BitVec 1) = 1#1 from e) (by decide),
      fun i _ => ?_, fun i _ => ?_, args⟩
    · obtain ⟨n, C, rfl⟩ := row_idx i
      exact r6 n C
    · obtain ⟨n, C, rfl⟩ := row_idx i
      exact r9 n C
    · obtain ⟨n, C, rfl⟩ := row_idx i
      exact r10 n C
  · refine (θ_run _ _ _).mono (fun r H c => ?_) (Cert.ReferenceIdeal.Value.run_blocks m' g')
    obtain ⟨r6, _, _, r9, r10, args⟩ := H c
    refine ⟨fun i _ => ?_, fun i e => absurd (show (0#1 : BitVec 1) = 1#1 from e) (by decide), fun i e => absurd (show (0#1 : BitVec 1) = 1#1 from e) (by decide),
      fun i _ => ?_, fun i _ => ?_, args⟩
    · obtain ⟨n, C, rfl⟩ := row_idx i
      exact (congrFun r6 _).trans ((ReferenceIdeal.final6 m' c n C).trans (agree6 (S c) n C).symm)
    · obtain ⟨n, C, rfl⟩ := row_idx i
      exact (congrFun r9 _).trans ((ReferenceIdeal.final9 m' c n C).trans (agree9 (S c) n C).symm)
    · obtain ⟨n, C, rfl⟩ := row_idx i
      exact (congrFun r10 _).trans ((ReferenceIdeal.final10 m' c n C).trans (agree10 (S c) n C).symm)

/-- Of the same arguments, the idealized kernel and the reference end with the same gradient of `x`, where the scales are positive and finite and
    the log temperature is not infinite. -/
theorem gradients : Cert.algebraic_KernelIdeal_ReferenceIdeal_on_gradients_pre_pre_gradients := by
  intro m g m' g' hp h
  have S : ∀ c, Same m m' c ∧ argT m c ≠ ⊤ := fun c =>
    have d := pre_gradients_says _ _ _ _ _ _ (hp c)
    ⟨⟨(h c).1, (h c).2.1, (h c).2.2.1, (h c).2.2.2.1, (h c).2.2.2.2.1, (h c).2.2.2.2.2, d.1, d.2.1⟩, d.2.2⟩
  refine ⟨fun c _ => (0 : EReal),
    fun c i => projK (argX m c (i 0).val (i 1).val) (fun e => ∑ r ∈ Finset.range 8192, gxT (argX m c (i 0).val) (argY m c (i 0).val) (argT m c) (argB m c) e r (i 1).val)
      (argS m c (i 0).val (i 1).val) (i 2),
    fun c _ => (0 : EReal), fun c _ => (0 : EReal), fun c _ => (0 : EReal), ?_, ?_⟩
  · refine (θ_run _ _ _).mono (fun r H c => ?_) (run_rows m g)
    obtain ⟨_, _, _, r7, args⟩ := H c
    refine ⟨fun i e => absurd (show (0#1 : BitVec 1) = 1#1 from e) (by decide), fun i _ => ?_, fun i e => absurd (show (0#1 : BitVec 1) = 1#1 from e) (by decide),
      fun i e => absurd (show (0#1 : BitVec 1) = 1#1 from e) (by decide), fun i e => absurd (show (0#1 : BitVec 1) = 1#1 from e) (by decide), args⟩
    obtain ⟨n, C, d, rfl⟩ := grad_idx i
    exact r7 n C d
  · refine (θ_run _ _ _).mono (fun r H c => ?_) (Cert.ReferenceIdeal.Value.run_blocks m' g')
    obtain ⟨_, r7, _, _, _, args⟩ := H c
    refine ⟨fun i e => absurd (show (0#1 : BitVec 1) = 1#1 from e) (by decide), fun i _ => ?_, fun i e => absurd (show (0#1 : BitVec 1) = 1#1 from e) (by decide),
      fun i e => absurd (show (0#1 : BitVec 1) = 1#1 from e) (by decide), fun i e => absurd (show (0#1 : BitVec 1) = 1#1 from e) (by decide), args⟩
    obtain ⟨n, C, d, rfl⟩ := grad_idx i
    exact (congrFun r7 _).trans ((ReferenceIdeal.final7 m' c n C d).trans (agree7 (S c).1 n C (S c).2 d).symm)

theorem claim : Cert.Claim :=
  ⟨Cert.Kernel.Gen.facts, Cert.KernelIdeal.Gen.facts, Cert.ReferenceIdeal.Gen.facts, Cert.Pre_pre.Gen.facts, Cert.Pre_pre_gradients.Gen.facts,
    Cert.On_row_results.Gen.facts, Cert.On_gradients.Gen.facts,
    fun m g _ => Kernel.frame m g, fun m g _ => KernelIdeal.frame m g, fun m g _ => KernelIdeal.frame m g, fun m g _ => KernelIdeal.frame m g,
    fun m g _ => Cert.ReferenceIdeal.Gen.frame m g, fun m g _ => Cert.ReferenceIdeal.Gen.frame m g, fun m g _ => Cert.ReferenceIdeal.Gen.frame m g,
    preserves, row_results, gradients⟩

end Cert.Proof

end
